-- ==== Defs.lean ====
def Pre_Kernel [hPre_idx_in_range : Cert.Pre_idx_in_range.Facts] (m : (ℓ : Loc Cert.Kernel.nD Cert.Kernel.τ Cert.Kernel.sig) → Buf (Elt Bits) ℓ) : Prop :=
  ∀ c : Dev Cert.Kernel.nD,
    (Cert.Pre_idx_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_idx_in_range : Cert.Pre_idx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_idx_in_range : Cert.Pre_idx_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_idx_in_range : Cert.Pre_idx_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_idx_in_range : Cert.Pre_idx_in_range.Facts),
    quiescent_Kernel (hKernel := hKernel) (hPre_idx_in_range := hPre_idx_in_range)
    ∧ quiescent_KernelIdeal (hKernelIdeal := hKernelIdeal) (hPre_idx_in_range := hPre_idx_in_range)
    ∧ quiescent_ReferenceIdeal (hReferenceIdeal := hReferenceIdeal) (hPre_idx_in_range := hPre_idx_in_range)
    ∧ preserves_Kernel_KernelIdeal
    ∧ algebraic_KernelIdeal_ReferenceIdeal (hKernelIdeal := hKernelIdeal) (hReferenceIdeal := hReferenceIdeal) (hPre_idx_in_range := hPre_idx_in_range)
-- ==== Pre_idx_in_range.lean ====
abbrev S4x128x128x384 : Shape := ⟨4, ![4, 128, 128, 384]⟩
abbrev S8x4x256x64x80 : Shape := ⟨5, ![8, 4, 256, 64, 80]⟩
abbrev S4x256x16 : Shape := ⟨3, ![4, 256, 16]⟩
abbrev S384x384 : Shape := ⟨2, ![384, 384]⟩
abbrev S384 : Shape := ⟨1, ![384]⟩
abbrev S_ : Shape := ⟨0, ![]⟩

class Facts : Prop where
  bcast_S_S4x256x16 : S_.BroadcastsInDim S4x256x16 (![] : Fin 0 → Fin S4x256x16.rank)

variable [Facts]

def fn {F : FTy → Type} [FloatOps F] (main_arg0 : FVec F S4x128x128x384 .f32) (main_arg1 : FVec F S8x4x256x64x80 .f32) (main_arg2 : IVec S4x256x16 32) (main_arg3 : FVec F S4x256x16 .f32) (main_arg4 : FVec F S384x384 .f32) (main_arg5 : FVec F S384 .f32) (main_arg6 : FVec F S384x384 .f32) (main_arg7 : FVec F S384 .f32) : IVec S4x256x16 1 :=
  let main_c : IVec S_ 32 := constantI S_ 32 0#32
  let main_v0 : IVec S4x256x16 32 := broadcastInDim S4x256x16 ![] bcast_S_S4x256x16 main_c
  let main_v1 : IVec S4x256x16 1 := cmpi .sge main_arg2 main_v0
  let main_c_0 : IVec S_ 32 := constantI S_ 32 16384#32
  let main_v2 : IVec S4x256x16 32 := broadcastInDim S4x256x16 ![] bcast_S_S4x256x16 main_c_0
  let main_v3 : IVec S4x256x16 1 := cmpi .slt main_arg2 main_v2
  let main_v4 : IVec S4x256x16 1 := andi main_v1 main_v3
  main_v4
-- ==== Kernel.lean ====
abbrev S4x128x128x384 : Shape := ⟨4, ![4, 128, 128, 384]⟩
abbrev S8x4x256x64x80 : Shape := ⟨5, ![8, 4, 256, 64, 80]⟩
abbrev S4x256x16 : Shape := ⟨3, ![4, 256, 16]⟩
abbrev S384x384 : Shape := ⟨2, ![384, 384]⟩
abbrev S384 : Shape := ⟨1, ![384]⟩
abbrev S65536x384 : Shape := ⟨2, ![65536, 384]⟩
abbrev S4 : Shape := ⟨1, ![4]⟩
abbrev S_ : Shape := ⟨0, ![]⟩
abbrev S4x1x1 : Shape := ⟨3, ![4, 1, 1]⟩
abbrev S16384 : Shape := ⟨1, ![16384]⟩
abbrev S196608x128 : Shape := ⟨2, ![196608, 128]⟩
abbrev S16384x1 : Shape := ⟨2, ![16384, 1]⟩
abbrev S3 : Shape := ⟨1, ![3]⟩
abbrev S1x3 : Shape := ⟨2, ![1, 3]⟩
abbrev S16384x3 : Shape := ⟨2, ![16384, 3]⟩
abbrev S49152 : Shape := ⟨1, ![49152]⟩
abbrev S1x49152 : Shape := ⟨2, ![1, 49152]⟩
abbrev S49152x128 : Shape := ⟨2, ![49152, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S4x16x16x16x384 : Shape := ⟨5, ![4, 16, 16, 16, 384]⟩
abbrev S8x4x16x16x64x80 : Shape := ⟨6, ![8, 4, 16, 16, 64, 80]⟩
abbrev S4x16x16x16 : Shape := ⟨4, ![4, 16, 16, 16]⟩
abbrev S4x16x256x1 : Shape := ⟨4, ![4, 16, 256, 1]⟩
abbrev S1x384 : Shape := ⟨2, ![1, 384]⟩
abbrev S2x128x8x384 : Shape := ⟨4, ![2, 128, 8, 384]⟩
abbrev S2x16x1x16x384 : Shape := ⟨5, ![2, 16, 1, 16, 384]⟩
abbrev S8x2x16x1x64x80 : Shape := ⟨6, ![8, 2, 16, 1, 64, 80]⟩
abbrev S2x1x256x1 : Shape := ⟨4, ![2, 1, 256, 1]⟩
abbrev S1x128x8x384 : Shape := ⟨4, ![1, 128, 8, 384]⟩
abbrev S128x8x384 : Shape := ⟨3, ![128, 8, 384]⟩
abbrev S1024x384 : Shape := ⟨2, ![1024, 384]⟩
abbrev S1x16x1x16x384 : Shape := ⟨5, ![1, 16, 1, 16, 384]⟩
abbrev S16x1x16x384 : Shape := ⟨4, ![16, 1, 16, 384]⟩
abbrev S256x384 : Shape := ⟨2, ![256, 384]⟩
abbrev S1x1x256x1 : Shape := ⟨4, ![1, 1, 256, 1]⟩
abbrev S256x1 : Shape := ⟨2, ![256, 1]⟩
abbrev S64x384 : Shape := ⟨2, ![64, 384]⟩
abbrev S16x384 : Shape := ⟨2, ![16, 384]⟩
abbrev S80x384 : Shape := ⟨2, ![80, 384]⟩
abbrev S1x1x1x1x64x80 : Shape := ⟨6, ![1, 1, 1, 1, 64, 80]⟩
abbrev S64x80 : Shape := ⟨2, ![64, 80]⟩
abbrev S80x48 : Shape := ⟨2, ![80, 48]⟩
abbrev S64x48 : Shape := ⟨2, ![64, 48]⟩

abbrev nBuf : Table → Nat
  | .hbm => 42
  | .local .tc .vmem => 14
  | .local .scVector .vmem => 2
  | _ => 0

abbrev bufTy : (tb : Table) → Fin (nBuf tb) → BufTy
  | .hbm, ⟨0, _⟩ => ⟨S4x128x128x384, .f32⟩
  | .hbm, ⟨1, _⟩ => ⟨S8x4x256x64x80, .f32⟩
  | .hbm, ⟨2, _⟩ => ⟨S4x256x16, .i32⟩
  | .hbm, ⟨3, _⟩ => ⟨S4x256x16, .f32⟩
  | .hbm, ⟨4, _⟩ => ⟨S384x384, .f32⟩
  | .hbm, ⟨5, _⟩ => ⟨S384, .f32⟩
  | .hbm, ⟨6, _⟩ => ⟨S384x384, .f32⟩
  | .hbm, ⟨7, _⟩ => ⟨S384, .f32⟩
  | .hbm, ⟨8, _⟩ => ⟨S65536x384, .f32⟩
  | .hbm, ⟨9, _⟩ => ⟨S4, .i32⟩
  | .hbm, ⟨10, _⟩ => ⟨S_, .i32⟩
  | .hbm, ⟨11, _⟩ => ⟨S4, .i32⟩
  | .hbm, ⟨12, _⟩ => ⟨S4, .i32⟩
  | .hbm, ⟨13, _⟩ => ⟨S4x1x1, .i32⟩
  | .hbm, ⟨14, _⟩ => ⟨S4x256x16, .i32⟩
  | .hbm, ⟨15, _⟩ => ⟨S4x256x16, .i32⟩
  | .hbm, ⟨16, _⟩ => ⟨S16384, .i32⟩
  | .hbm, ⟨17, _⟩ => ⟨S196608x128, .f32⟩
  | .hbm, ⟨18, _⟩ => ⟨S16384x1, .i32⟩
  | .hbm, ⟨19, _⟩ => ⟨S_, .i32⟩
  | .hbm, ⟨20, _⟩ => ⟨S16384x1, .i32⟩
  | .hbm, ⟨21, _⟩ => ⟨S16384x1, .i32⟩
  | .hbm, ⟨22, _⟩ => ⟨S3, .i32⟩
  | .hbm, ⟨23, _⟩ => ⟨S1x3, .i32⟩
  | .hbm, ⟨24, _⟩ => ⟨S16384x3, .i32⟩
  | .hbm, ⟨25, _⟩ => ⟨S16384x3, .i32⟩
  | .hbm, ⟨26, _⟩ => ⟨S16384x3, .i32⟩
  | .hbm, ⟨27, _⟩ => ⟨S49152, .i32⟩
  | .hbm, ⟨28, _⟩ => ⟨S1x49152, .i32⟩
  | .hbm, ⟨29, _⟩ => ⟨S49152x128, .f32⟩
  | .hbm, ⟨30, _⟩ => ⟨S4x16x16x16x384, .f32⟩
  | .hbm, ⟨31, _⟩ => ⟨S8x4x16x16x64x80, .f32⟩
  | .hbm, ⟨32, _⟩ => ⟨S4x16x16x16, .f32⟩
  | .hbm, ⟨33, _⟩ => ⟨S4x16x16x16, .f32⟩
  | .hbm, ⟨34, _⟩ => ⟨S4x16x256x1, .f32⟩
  | .hbm, ⟨35, _⟩ => ⟨S384x384, .f32⟩
  | .hbm, ⟨36, _⟩ => ⟨S384x384, .bf16⟩
  | .hbm, ⟨37, _⟩ => ⟨S1x384, .f32⟩
  | .hbm, ⟨38, _⟩ => ⟨S384x384, .f32⟩
  | .hbm, ⟨39, _⟩ => ⟨S384x384, .bf16⟩
  | .hbm, ⟨40, _⟩ => ⟨S1x384, .f32⟩
  | .hbm, ⟨41, _⟩ => ⟨S4x128x128x384, .f32⟩
  | .local .tc .vmem, ⟨0, _⟩ => ⟨S2x128x8x384, .f32⟩
  | .local .tc .vmem, ⟨1, _⟩ => ⟨S2x128x8x384, .f32⟩
  | .local .tc .vmem, ⟨2, _⟩ => ⟨S2x16x1x16x384, .f32⟩
  | .local .tc .vmem, ⟨3, _⟩ => ⟨S2x16x1x16x384, .f32⟩
  | .local .tc .vmem, ⟨4, _⟩ => ⟨S8x2x16x1x64x80, .f32⟩
  | .local .tc .vmem, ⟨5, _⟩ => ⟨S8x2x16x1x64x80, .f32⟩
  | .local .tc .vmem, ⟨6, _⟩ => ⟨S2x1x256x1, .f32⟩
  | .local .tc .vmem, ⟨7, _⟩ => ⟨S2x1x256x1, .f32⟩
  | .local .tc .vmem, ⟨8, _⟩ => ⟨S384x384, .bf16⟩
  | .local .tc .vmem, ⟨9, _⟩ => ⟨S1x384, .f32⟩
  | .local .tc .vmem, ⟨10, _⟩ => ⟨S384x384, .bf16⟩
  | .local .tc .vmem, ⟨11, _⟩ => ⟨S1x384, .f32⟩
  | .local .tc .vmem, ⟨12, _⟩ => ⟨S2x128x8x384, .f32⟩
  | .local .tc .vmem, ⟨13, _⟩ => ⟨S2x128x8x384, .f32⟩
  | .local .scVector .vmem, ⟨0, _⟩ => ⟨S2x1x128, .i32⟩
  | .local .scVector .vmem, ⟨1, _⟩ => ⟨S2x128x128, .f32⟩
  | _, _ => ⟨S4x128x128x384, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v8_scv : Ref sig .scVector := ⟨.hbm, 17, rfl⟩
abbrev main_v18_scv : Ref sig .scVector := ⟨.hbm, 28, rfl⟩
abbrev main_v19_scv : Ref sig .scVector := ⟨.hbm, 29, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg8_1 : Ref sig .tc := ⟨.vmem, 13, rfl⟩
abbrev cc0_scoped0 : Ref sig .scVector := ⟨.vmem, 0, rfl⟩
abbrev cc0_scoped2 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c12_i32 : BitVec 32 := 12#32
  let v4 : BitVec 32 := Scalar.muli v3 c12_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c12_i32_27_r0 : BitVec 32 := 12#32
  let v32_r0 : BitVec 32 := Scalar.addi c0_i32_26_r0 c12_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c12_i32 : BitVec 32 := 12#32
  let v4 : BitVec 32 := Scalar.muli v3 c12_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c12_i32_62_r0 : BitVec 32 := 12#32
  let v74_r0 : BitVec 1 := Scalar.cmpi .eq v73_r0 c12_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c11_i32_68_r0 : BitVec 32 := 11#32
  let v83_r0 : BitVec 1 := Scalar.cmpi .sge arg5_r0 c11_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c12_i32_62_r0 : BitVec 32 := 12#32
  let v74_r0 : BitVec 1 := Scalar.cmpi .eq v73_r0 c12_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c12_i32 : BitVec 32 := 12#32
  let v4 : BitVec 32 := Scalar.muli v3 c12_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c12_i32 : BitVec 32 := 12#32
  let v4 : BitVec 32 := Scalar.muli v3 c12_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c11_i32_59_r0 : BitVec 32 := 11#32
  let v70_r0 : BitVec 32 := Scalar.select v69_r0 c11_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c12_i32 : BitVec 32 := 12#32
  let v4 : BitVec 32 := Scalar.muli v3 c12_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c12_i32 : BitVec 32 := 12#32
  let v4 : BitVec 32 := Scalar.muli v3 c12_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c12_i32_62_r0 : BitVec 32 := 12#32
  let v74_r0 : BitVec 1 := Scalar.cmpi .eq v73_r0 c12_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c11_i32_55_r0 : BitVec 32 := 11#32
  let v65_r0 : BitVec 1 := Scalar.cmpi .eq arg5_r0 c11_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c12_i32 : BitVec 32 := 12#32
  let v4 : BitVec 32 := Scalar.muli v3 c12_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c12_i32 : BitVec 32 := 12#32
  let v4 : BitVec 32 := Scalar.muli v3 c12_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c11_i32_59_r0 : BitVec 32 := 11#32
  let v70_r0 : BitVec 32 := Scalar.select v69_r0 c11_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c11_i32_59_r0 : BitVec 32 := 11#32
  let v70_r0 : BitVec 32 := Scalar.select v69_r0 c11_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c12_i32 : BitVec 32 := 12#32
  let v4 : BitVec 32 := Scalar.muli v3 c12_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x49152.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x49152.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S49152x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S49152x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x49152.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x49152.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S49152x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S49152x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c11_i32_33_r0 : BitVec 32 := 11#32
  let v37_r0 : BitVec 32 := Scalar.select v36_r0 c11_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c12_i32 : BitVec 32 := 12#32
  let v4 : BitVec 32 := Scalar.muli v3 c12_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S49152x128.size a)
theorem k0_off19_inb : ∀ (i : grid0.Coords) (v33_4_r0 : BitVec 32) (k0_hw5 : k0_chk5 i v33_4_r0), ∀ a, (k0_off19 i v33_4_r0) a + S128x128.size a ≤ S49152x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev grid1 : Pipeline.Grid := ⟨2, ![2, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_2 (i : grid1.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, arg1.toNat, c0_i32_1.toNat, c0_i32_2.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S2x128x8x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2x16x1x16x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x2x16x1x64x80 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2x1x256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S384x384 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S384x384 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S2x128x8x384 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x128x128x384 : Shape := ⟨4, ![4, 128, 128, 384]⟩
abbrev S8x4x256x64x80 : Shape := ⟨5, ![8, 4, 256, 64, 80]⟩
abbrev S4x256x16 : Shape := ⟨3, ![4, 256, 16]⟩
abbrev S384x384 : Shape := ⟨2, ![384, 384]⟩
abbrev S384 : Shape := ⟨1, ![384]⟩
abbrev S1x1x1x384 : Shape := ⟨4, ![1, 1, 1, 384]⟩
abbrev S4x16384x384 : Shape := ⟨3, ![4, 16384, 384]⟩
abbrev S4 : Shape := ⟨1, ![4]⟩
abbrev S4x1x1 : Shape := ⟨3, ![4, 1, 1]⟩
abbrev S_ : Shape := ⟨0, ![]⟩
abbrev S4x256x16x1 : Shape := ⟨4, ![4, 256, 16, 1]⟩
abbrev S4x256x16x2 : Shape := ⟨4, ![4, 256, 16, 2]⟩
abbrev S4x256x16x384 : Shape := ⟨4, ![4, 256, 16, 384]⟩
abbrev S4x256x16x8x48 : Shape := ⟨5, ![4, 256, 16, 8, 48]⟩
abbrev S8x4x256x16x48 : Shape := ⟨5, ![8, 4, 256, 16, 48]⟩
abbrev S4x16x8x16x8x8x48 : Shape := ⟨7, ![4, 16, 8, 16, 8, 8, 48]⟩
abbrev S8x4x16x16x8x8x48 : Shape := ⟨7, ![8, 4, 16, 16, 8, 8, 48]⟩
abbrev S8x4x256x64x48 : Shape := ⟨5, ![8, 4, 256, 64, 48]⟩
abbrev S8x4x256x80x48 : Shape := ⟨5, ![8, 4, 256, 80, 48]⟩

abbrev nBuf : Space → Nat
  | .hbm => 53
  | .vmem => 0
  | .smem => 0
  | _ => 0

abbrev bufTy : (tb : Table) → Fin (tcTables nBuf tb) → BufTy
  | .hbm, ⟨0, _⟩ => ⟨S4x128x128x384, .f32⟩
  | .hbm, ⟨1, _⟩ => ⟨S8x4x256x64x80, .f32⟩
  | .hbm, ⟨2, _⟩ => ⟨S4x256x16, .i32⟩
  | .hbm, ⟨3, _⟩ => ⟨S4x256x16, .f32⟩
  | .hbm, ⟨4, _⟩ => ⟨S384x384, .f32⟩
  | .hbm, ⟨5, _⟩ => ⟨S384, .f32⟩
  | .hbm, ⟨6, _⟩ => ⟨S384x384, .f32⟩
  | .hbm, ⟨7, _⟩ => ⟨S384, .f32⟩
  | .hbm, ⟨8, _⟩ => ⟨S384x384, .f32⟩
  | .hbm, ⟨9, _⟩ => ⟨S4x128x128x384, .f32⟩
  | .hbm, ⟨10, _⟩ => ⟨S1x1x1x384, .f32⟩
  | .hbm, ⟨11, _⟩ => ⟨S4x128x128x384, .f32⟩
  | .hbm, ⟨12, _⟩ => ⟨S4x128x128x384, .f32⟩
  | .hbm, ⟨13, _⟩ => ⟨S4x16384x384, .f32⟩
  | .hbm, ⟨14, _⟩ => ⟨S4, .i32⟩
  | .hbm, ⟨15, _⟩ => ⟨S4x1x1, .i32⟩
  | .hbm, ⟨16, _⟩ => ⟨S_, .i32⟩
  | .hbm, ⟨17, _⟩ => ⟨S4x1x1, .i32⟩
  | .hbm, ⟨18, _⟩ => ⟨S4x1x1, .i1⟩
  | .hbm, ⟨19, _⟩ => ⟨S_, .i32⟩
  | .hbm, ⟨20, _⟩ => ⟨S4x1x1, .i32⟩
  | .hbm, ⟨21, _⟩ => ⟨S4x1x1, .i32⟩
  | .hbm, ⟨22, _⟩ => ⟨S4x1x1, .i32⟩
  | .hbm, ⟨23, _⟩ => ⟨S_, .i32⟩
  | .hbm, ⟨24, _⟩ => ⟨S4x256x16, .i32⟩
  | .hbm, ⟨25, _⟩ => ⟨S4x256x16, .i1⟩
  | .hbm, ⟨26, _⟩ => ⟨S_, .i32⟩
  | .hbm, ⟨27, _⟩ => ⟨S4x256x16, .i32⟩
  | .hbm, ⟨28, _⟩ => ⟨S4x256x16, .i32⟩
  | .hbm, ⟨29, _⟩ => ⟨S4x256x16, .i32⟩
  | .hbm, ⟨30, _⟩ => ⟨S4x256x16, .i32⟩
  | .hbm, ⟨31, _⟩ => ⟨S4x256x16x1, .i32⟩
  | .hbm, ⟨32, _⟩ => ⟨S4x256x16x1, .i32⟩
  | .hbm, ⟨33, _⟩ => ⟨S4x256x16x2, .i32⟩
  | .hbm, ⟨34, _⟩ => ⟨S4x256x16x384, .f32⟩
  | .hbm, ⟨35, _⟩ => ⟨S4x256x16x1, .f32⟩
  | .hbm, ⟨36, _⟩ => ⟨S4x256x16x384, .f32⟩
  | .hbm, ⟨37, _⟩ => ⟨S4x256x16x384, .f32⟩
  | .hbm, ⟨38, _⟩ => ⟨S4x256x16x8x48, .f32⟩
  | .hbm, ⟨39, _⟩ => ⟨S8x4x256x16x48, .f32⟩
  | .hbm, ⟨40, _⟩ => ⟨S4x16x8x16x8x8x48, .f32⟩
  | .hbm, ⟨41, _⟩ => ⟨S8x4x16x16x8x8x48, .f32⟩
  | .hbm, ⟨42, _⟩ => ⟨S8x4x256x64x48, .f32⟩
  | .hbm, ⟨43, _⟩ => ⟨S8x4x256x80x48, .f32⟩
  | .hbm, ⟨44, _⟩ => ⟨S8x4x256x64x48, .f32⟩
  | .hbm, ⟨45, _⟩ => ⟨S8x4x16x16x8x8x48, .f32⟩
  | .hbm, ⟨46, _⟩ => ⟨S4x16x8x16x8x8x48, .f32⟩
  | .hbm, ⟨47, _⟩ => ⟨S4x128x128x384, .f32⟩
  | .hbm, ⟨48, _⟩ => ⟨S384x384, .f32⟩
  | .hbm, ⟨49, _⟩ => ⟨S4x128x128x384, .f32⟩
  | .hbm, ⟨50, _⟩ => ⟨S1x1x1x384, .f32⟩
  | .hbm, ⟨51, _⟩ => ⟨S4x128x128x384, .f32⟩
  | .hbm, ⟨52, _⟩ => ⟨S4x128x128x384, .f32⟩
  | _, _ => ⟨S4x128x128x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Proof.Setup.lean ====
/-
  The gather kernel's program as the launch theorem sees it, the ghost state of the proof, and the names of the pieces
  the two pipelines move: window `n` of the list of row numbers and of the gathered rows (`iWin`, `oWin`), the two slots
  of each staging buffer (`iSlot`, `oSlot`) and the two cells of each pipeline (`iSem`, `oSem`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Ring
public import proofs.«01_k».proof.Proof.Gen.KernelIdeal
public import proofs.«01_k».proof.Proof.Gen.KernelIdeal.Skeleton
public import Idealize.ShloMosaic.Lib.Pipeline.Regions

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the grid's rounds, the transfers' counters -/

abbrev UH : Type := URounds (GSem nD τ sig) ℕ
abbrev UP : Type := URounds (GSem nD τ sig) Unit
abbrev UU : Type := UH × (UP × Counters)

abbrev MG (F : FTy → Type) : Type _ := MT nD τ sig (HIx 1) (Elt F) ℕ UU ℕ
local notation "𝕄" => MG F

abbrev EH : Emb UH (MG F) := embL
abbrev EP : Emb UP (MG F) := (Emb.inl : Emb UP (UP × Counters)).trans embR

/-! ## The arrays the call works on -/

abbrev xLoc (d : Dev nD) : Loc nD τ sig := (SparseCore.T d).loc main_v8
abbrev iLoc (d : Dev nD) : Loc nD τ sig := (SparseCore.T d).loc main_v18
abbrev oLoc (d : Dev nD) : Loc nD τ sig := (SparseCore.T d).loc main_v19

abbrev xV : Memref sig .scVector .hbm S196608x128 .f32 := Memref.whole main_v8_scv
abbrev iV : Memref sig .scVector .hbm S1x49152 .i32 := Memref.whole main_v18_scv
abbrev oV : Memref sig .scVector .hbm S49152x128 .f32 := Memref.whole main_v19_scv
abbrev sV : Memref sig .scVector .vmem S2x1x128 .i32 := Memref.whole cc0_scoped0
abbrev rV : Memref sig .scVector .vmem S2x128x128 .f32 := Memref.whole cc0_scoped2

/-! ## Windows, slots and cells by number -/

theorem inb_iWin (n : Fin 384) : ∀ a, (![0, 128 * n.val] : Fin 2 → Nat) a + S1x128.size a ≤ S1x49152.size a := by
  have := n.isLt; intro a; fin_cases a <;> simp <;> omega
theorem inb_oWin (n : Fin 384) : ∀ a, (![128 * n.val, 0] : Fin 2 → Nat) a + S128x128.size a ≤ S49152x128.size a := by
  have := n.isLt; intro a; fin_cases a <;> simp <;> omega
theorem inb_iSlot (j : Fin 2) : ∀ a, (![j.val, 0, 0] : Fin 3 → Nat) a + S1x1x128.size a ≤ S2x1x128.size a := by
  have := j.isLt; intro a; fin_cases a <;> simp <;> omega
theorem inb_oSlot (j : Fin 2) : ∀ a, (![j.val, 0, 0] : Fin 3 → Nat) a + S1x128x128.size a ≤ S2x128x128.size a := by
  have := j.isLt; intro a; fin_cases a <;> simp <;> omega
theorem inb_cell (j : Fin 2) : ∀ a, (![j.val] : Fin 1 → Nat) a + S1.size a ≤ S2.size a := by
  have := j.isLt; intro a; fin_cases a; simp; omega

/-- Window `n` of the list of row numbers: 128 consecutive words. -/
def iWin (n : Fin 384) : Memref sig .scVector .hbm S1x128 .i32 :=
  iV.slice (Rect.unit (s := S1x49152) ![0, 128 * n.val] S1x128.size (inb_iWin n)) (fun _ => rfl)
/-- Window `n` of the gathered rows: 128 consecutive rows. -/
def oWin (n : Fin 384) : Memref sig .scVector .hbm S128x128 .f32 :=
  oV.slice (Rect.unit (s := S49152x128) ![128 * n.val, 0] S128x128.size (inb_oWin n)) (fun _ => rfl)
/-- Slot `j` of the staged row numbers. -/
def iSlot (j : Fin 2) : Memref sig .scVector .vmem S1x128 .i32 :=
  (sV.slice (Rect.unit (s := S2x1x128) ![j.val, 0, 0] S1x1x128.size (inb_iSlot j)) (fun _ => rfl)).squeeze S1x128 squeezes_S1x1x128_S1x128
/-- Slot `j` of the staged rows. -/
def oSlot (j : Fin 2) : Memref sig .scVector .vmem S128x128 .f32 :=
  (rV.slice (Rect.unit (s := S2x128x128) ![j.val, 0, 0] S1x128x128.size (inb_oSlot j)) (fun _ => rfl)).squeeze S128x128 squeezes_S1x128x128_S128x128
/-- Cell `j` of the row numbers' pipeline, of the rows' pipeline. -/
def iSem (j : Fin 2) : DmaSems sig S_ := (cc0_scoped1.slice (Rect.unit (s := S2) ![j.val] S1.size (inb_cell j))).squeeze S_ squeezes_S1_S_
def oSem (j : Fin 2) : DmaSems sig S_ := (cc0_scoped3.slice (Rect.unit (s := S2) ![j.val] S1.size (inb_cell j))).squeeze S_ squeezes_S1_S_
/-- The staged list as the stream reads it: slot `j`'s one row. -/
def iList (j : Fin 2) : Memref sig .scVector .vmem S128 .i32 :=
  ((iSlot j).slice (Rect.unit (s := S1x128) ![0, 0] S1x128.size inb_S1x128_S1x128_0_0) (fun _ => rfl)).squeeze S128 squeezes_S1x128_S128
/-- The whole table as the stream addresses it. -/
abbrev xAll : Memref sig .scVector .hbm S196608x128 .f32 :=
  xV.slice (Rect.unit (s := S196608x128) ![0, 0] S196608x128.size inb_S196608x128_S196608x128_0_0) (fun _ => rfl)

/-- The slot of trip `k`, and the other one. -/
abbrev sl (k : ℕ) : Fin 2 := Ring.sl 2 k

/-! ## The words the loop carries -/

/-- The tile's number among the 32, and window `w` of its twelve. -/
def wn (L : grid0.Coords) (w : ℕ) : ℕ := ((L 1).val + 16 * (L 0).val) * 12 + w
theorem wn_lt (L : grid0.Coords) {w : ℕ} (h : w < 12) : wn L w < 384 := by
  have h0 : (L 0).val < 2 := (L 0).isLt
  have h1 : (L 1).val < 16 := (L 1).isLt
  unfold wn; omega
abbrev wnF (L : grid0.Coords) (w : Fin 12) : Fin 384 := ⟨wn L w.val, wn_lt L w.isLt⟩

/-- The five counters before trip `k`: copies in issued, copies in awaited, copies out issued, copies out awaited, and
    the grid index. -/
def a6 (k : ℕ) : BitVec 32 := BitVec.ofNat 32 (min (k + 1) 12)
def a7 (k : ℕ) : BitVec 32 := BitVec.ofNat 32 k
def a9 (k : ℕ) : BitVec 32 := BitVec.ofNat 32 (k - 1)
def a10 (k : ℕ) : BitVec 32 := BitVec.ofNat 32 (k % 12)
abbrev carried (k : ℕ) : BitVec 32 × BitVec 32 × BitVec 32 × BitVec 32 × BitVec 32 := (a6 k, a7 k, a7 k, a9 k, a10 k)
/-- The tile's first window as the kernel computes it. -/
def base (L : grid0.Coords) : BitVec 32 :=
  Scalar.muli (Scalar.addi (Scalar.addi 0#32 (Scalar.muli (BitVec.ofNat 32 (L 1).val) 1#32)) (Scalar.muli (BitVec.ofNat 32 (L 0).val) 16#32)) 12#32

theorem trips_eq : k0_t1_loop.trips = 12 := by decide +kernel

section Words
abbrev TripF := Fin k0_t1_loop.trips

theorem cond1_iff : ∀ (L : grid0.Coords) (k : TripF), k0_cond1 L k (a10 k.val) = 1#1 ↔ k.val < 11 := by decide +kernel
theorem cond2_true : ∀ (L : grid0.Coords) (k : TripF), k0_cond2 L k (a10 k.val) = 1#1 := by decide +kernel
theorem cond5_true : ∀ (L : grid0.Coords) (k : TripF), k0_cond5 L k (a10 k.val) = 1#1 := by decide +kernel
theorem cond7_iff : ∀ (L : grid0.Coords) (k : TripF), k0_cond7 L k (a10 k.val) = 1#1 ↔ 0 < k.val := by decide +kernel
theorem chk1_true : ∀ (L : grid0.Coords) (k : TripF), k0_chk1 L k (a6 k.val) (a7 k.val) (a7 k.val) (a9 k.val) (a10 k.val) := by decide +kernel
theorem chk2_true : ∀ (k : TripF), k0_chk2 (a7 k.val) := by decide +kernel
theorem chk3_true : ∀ (k : TripF), k0_chk3 (a7 k.val) := by decide +kernel
theorem chk4_true : k0_chk4 (a9 12) := by decide +kernel
theorem chk5_true : ∀ (L : grid0.Coords), k0_chk5 L (a10 12) := by decide +kernel

theorem off1_eq : k0_off1 = ![(sl 0).val, 0, 0] := by decide +kernel
theorem off2_eq : ∀ L : grid0.Coords, k0_off2 L = ![0, 128 * wn L 0] := by decide +kernel
theorem off3_eq : k0_off3 = ![(sl 0).val] := by decide +kernel
theorem off4_eq : ∀ k : TripF, k.val < 11 → k0_off4 (a6 k.val) = ![(sl (k.val + 1)).val, 0, 0] := by decide +kernel
theorem off5_eq : ∀ (L : grid0.Coords) (k : TripF), k.val < 11 → k0_off5 L (a10 k.val) = ![0, 128 * wn L (k.val + 1)] := by decide +kernel
theorem off6_eq : ∀ k : TripF, k.val < 11 → k0_off6 (a6 k.val) = ![(sl (k.val + 1)).val] := by decide +kernel
theorem off7_eq : ∀ k : TripF, k0_off7 (a7 k.val) = ![(sl k.val).val, 0, 0] := by decide +kernel
theorem off8_eq : ∀ (L : grid0.Coords) (k : TripF), k0_off8 L (a10 k.val) = ![0, 128 * wn L k.val] := by decide +kernel
theorem off9_eq : ∀ k : TripF, k0_off9 (a7 k.val) = ![(sl k.val).val] := by decide +kernel
theorem off10_eq : ∀ k : TripF, k0_off10 (a7 k.val) = ![(sl k.val).val, 0, 0] := by decide +kernel
theorem off11_eq : ∀ k : TripF, k0_off11 (a7 k.val) = ![(sl k.val).val, 0, 0] := by decide +kernel
theorem off12_eq : ∀ k : TripF, k0_off12 (a7 k.val) = ![(sl k.val).val, 0, 0] := by decide +kernel
theorem off13_eq : ∀ (L : grid0.Coords) (k : TripF), k0_off13 L (a10 k.val) = ![128 * wn L k.val, 0] := by decide +kernel
theorem off14_eq : ∀ k : TripF, k0_off14 (a7 k.val) = ![(sl k.val).val] := by decide +kernel
theorem off15_eq : ∀ k : TripF, 0 < k.val → k0_off15 (a9 k.val) = ![(sl (k.val + 1)).val, 0, 0] := by decide +kernel
theorem off16_eq : ∀ (L : grid0.Coords) (k : TripF), 0 < k.val → k0_off16 L (a10 k.val) = ![128 * wn L (k.val - 1), 0] := by decide +kernel
/-- The window number the pipeline carries, moved on by one and wrapped at twelve. -/
def up (a : BitVec 32) : BitVec 32 :=
  Scalar.select (Scalar.cmpi .eq (Scalar.select (1#1) (Scalar.addi a 1#32) a) 12#32) (0#32) (Scalar.select (1#1) (Scalar.addi a 1#32) a)
/-- The same moved back by one. -/
def down (a : BitVec 32) : BitVec 32 :=
  Scalar.select (Scalar.cmpi .eq (Scalar.select (1#1) (Scalar.subi a 1#32) a) 4294967295#32) (11#32) (Scalar.select (1#1) (Scalar.subi a 1#32) a)
/-- The five counters after trip `k`, as the kernel computes them. -/
def next (L : grid0.Coords) (k : ℕ) : BitVec 32 × BitVec 32 × BitVec 32 × BitVec 32 × BitVec 32 :=
  (Scalar.select (Scalar.andi (Scalar.andi (Scalar.cmpi .ne (Scalar.addi (a10 k) (base L)) (Scalar.addi (up (a10 k)) (base L)))
      (Scalar.xori (Scalar.cmpi .sge (Scf.iv 0#32 1#32 k) 11#32) 1#1)) 1#1) (Scalar.addi (a6 k) 1#32) (a6 k),
    Scalar.select (Scalar.ori (Scalar.cmpi .ne (Scalar.addi (a10 k) (base L)) (Scalar.addi (up (a10 k)) (base L)))
      (Scalar.cmpi .eq (Scf.iv 0#32 1#32 k) 11#32)) (Scalar.addi (a7 k) 1#32) (a7 k),
    Scalar.select (Scalar.andi (Scalar.ori (Scalar.cmpi .ne (Scalar.addi (a10 k) (base L)) (Scalar.addi (up (a10 k)) (base L)))
      (Scalar.cmpi .eq (Scf.iv 0#32 1#32 k) 11#32)) 1#1) (Scalar.addi (a7 k) 1#32) (a7 k),
    Scalar.select (Scalar.andi (Scalar.andi (Scalar.cmpi .ne (Scalar.addi (a10 k) (base L)) (Scalar.addi (down (a10 k)) (base L)))
      (Scalar.xori (Scalar.cmpi .eq (Scf.iv 0#32 1#32 k) 0#32) 1#1)) 1#1) (Scalar.addi (a9 k) 1#32) (a9 k),
    up (a10 k))
theorem next_eq : ∀ (L : grid0.Coords) (k : TripF), next L k.val = carried (k.val + 1) := by decide +kernel
theorem off17_eq : ∀ k : TripF, 0 < k.val → k0_off17 (a9 k.val) = ![(sl (k.val + 1)).val] := by decide +kernel
theorem off19_eq : ∀ L : grid0.Coords, k0_off19 L (a10 12) = ![128 * wn L 11, 0] := by decide +kernel
theorem off20_eq : k0_off20 (a9 12) = ![(sl 11).val] := by decide +kernel
theorem off21_eq : k0_off21 (a9 12) = ![(sl 11).val, 0, 0] := by decide +kernel
end Words

end Cert.Proof.Gather

end
-- ==== Proof.TcRules.lean ====
/-
  The grid's body, one call of it: the blocks it is given, the values it computes from them — both halves of the
  block, sixteen groups of 64 rows each, eight heads to a group — and the rules its statements are followed by.
-/
module

public import proofs.«01_k».proof.Proof.Setup
public import Idealize.ShloMosaic.Lib.Writes
public import Idealize.ShloMosaic.Lib.Pipeline.FrameBody

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}
local notation "𝕄" => MG F

/-- The staging buffers one call of the body works on. -/
structure Bufs where
  x : Memref sig .tc .vmem S2x128x8x384 .f32
  hx : x.IsWhole
  g : Memref sig .tc .vmem S2x16x1x16x384 .f32
  hg : g.IsWhole
  aw : Memref sig .tc .vmem S8x2x16x1x64x80 .f32
  haw : aw.IsWhole
  w : Memref sig .tc .vmem S2x1x256x1 .f32
  hw : w.IsWhole
  wi : Memref sig .tc .vmem S384x384 .bf16
  hwi : wi.IsWhole
  bi : Memref sig .tc .vmem S1x384 .f32
  hbi : bi.IsWhole
  wo : Memref sig .tc .vmem S384x384 .bf16
  hwo : wo.IsWhole
  bo : Memref sig .tc .vmem S1x384 .f32
  hbo : bo.IsWhole
  o : Memref sig .tc .vmem S2x128x8x384 .f32
  ho : o.IsWhole

/-- The contents of the eight it reads. -/
structure Blocks (F : FTy → Type) where
  x : Vec F S2x128x8x384 .f32
  g : Vec F S2x16x1x16x384 .f32
  aw : Vec F S8x2x16x1x64x80 .f32
  w : Vec F S2x1x256x1 .f32
  wi : Vec F S384x384 .bf16
  bi : Vec F S1x384 .f32
  wo : Vec F S384x384 .bf16
  bo : Vec F S1x384 .f32

/-! ## The values -/

theorem inb_x (db : Fin 2) : ∀ a, (![db.val, 0, 0, 0] : Fin 4 → Nat) a + S1x128x8x384.size a ≤ S2x128x8x384.size a := by
  revert db; decide
theorem inb_g (db : Fin 2) : ∀ a, (![db.val, 0, 0, 0, 0] : Fin 5 → Nat) a + S1x16x1x16x384.size a ≤ S2x16x1x16x384.size a := by
  revert db; decide
theorem inb_w (db : Fin 2) : ∀ a, (![db.val, 0, 0, 0] : Fin 4 → Nat) a + S1x1x256x1.size a ≤ S2x1x256x1.size a := by
  revert db; decide
theorem inb_aw (db : Fin 2) (bh : Fin 16) (h : Fin 8) :
    ∀ a, (![h.val, db.val, bh.val, 0, 0, 0] : Fin 6 → Nat) a + S1x1x1x1x64x80.size a ≤ S8x2x16x1x64x80.size a := by
  revert db bh h; decide
theorem slices_xs (bh : Fin 16) : S1024x384.Slices ![64 * bh.val, 0] S64x384 := by revert bh; decide
theorem slices_gs (bh : Fin 16) : S256x384.Slices ![16 * bh.val, 0] S16x384 := by revert bh; decide
theorem slices_vh (h : Fin 8) : S80x384.Slices ![0, 48 * h.val] S80x48 := by revert h; decide

/-- Half `db` of a block of four axes, and of the others. -/
abbrev rX (db : Fin 2) : Rect S2x128x8x384 := Rect.unit (s := S2x128x8x384) ![db.val, 0, 0, 0] S1x128x8x384.size (inb_x db)
abbrev rG (db : Fin 2) : Rect S2x16x1x16x384 := Rect.unit (s := S2x16x1x16x384) ![db.val, 0, 0, 0, 0] S1x16x1x16x384.size (inb_g db)
abbrev rW (db : Fin 2) : Rect S2x1x256x1 := Rect.unit (s := S2x1x256x1) ![db.val, 0, 0, 0] S1x1x256x1.size (inb_w db)
/-- One head's plane of the attention weights at one group of rows. -/
abbrev rA (db : Fin 2) (bh : Fin 16) (h : Fin 8) : Rect S8x2x16x1x64x80 :=
  Rect.unit (s := S8x2x16x1x64x80) ![h.val, db.val, bh.val, 0, 0, 0] S1x1x1x1x64x80.size (inb_aw db bh h)
/-- A matrix and a row, whole. -/
abbrev rM : Rect S384x384 := Rect.unit (s := S384x384) ![0, 0] S384x384.size inb_S384x384_S384x384_0_0
abbrev rB : Rect S1x384 := Rect.unit (s := S1x384) ![0, 0] S1x384.size inb_S1x384_S1x384_0_0

section Values

variable [FloatOps F] (X : Blocks F)

def wiV : FVec F S384x384 .bf16 := shapeCast S384x384 (View.ld X.wi rM) shapeCasts_S384x384_S384x384
def woV : FVec F S384x384 .bf16 := shapeCast S384x384 (View.ld X.wo rM) shapeCasts_S384x384_S384x384
def biV : FVec F S1x384 .f32 := shapeCast S1x384 (View.ld X.bi rB) shapeCasts_S1x384_S1x384
def boV : FVec F S1x384 .f32 := shapeCast S1x384 (View.ld X.bo rB) shapeCasts_S1x384_S1x384

/-- The half's rows, projected. -/
def xp (db : Fin 2) : FVec F S1024x384 .bf16 :=
  truncf .bf16 (addf (matmul dot_S1024x384_S384x384_S1024x384_1_0_0_1_n_n none
    (truncf .bf16 (shapeCast S1024x384 (shapeCast S128x8x384 (View.ld X.x (rX db)) shapeCasts_S1x128x8x384_S128x8x384 : FVec F S128x8x384 .f32)
      shapeCasts_S128x8x384_S1024x384 : FVec F S1024x384 .f32) bitsLt_bf16_f32)
    (wiV X) (constant S1024x384 .f32 0x00000000#32)) (broadcastTo S1024x384 (biV X) broadcasts_S1x384_S1024x384)) bitsLt_bf16_f32

/-- The gathered rows, projected and weighted. -/
def gp (db : Fin 2) : FVec F S256x384 .bf16 :=
  truncf .bf16 (mulf (addf (matmul dot_S256x384_S384x384_S256x384_1_0_0_1_n_n none
    (truncf .bf16 (shapeCast S256x384 (shapeCast S16x1x16x384 (View.ld X.g (rG db)) shapeCasts_S1x16x1x16x384_S16x1x16x384 : FVec F S16x1x16x384 .f32)
      shapeCasts_S16x1x16x384_S256x384 : FVec F S256x384 .f32) bitsLt_bf16_f32)
    (wiV X) (constant S256x384 .f32 0x00000000#32)) (broadcastTo S256x384 (biV X) broadcasts_S1x384_S256x384))
    (broadcastTo S256x384 (shapeCast S256x1 (View.ld X.w (rW db)) shapeCasts_S1x1x256x1_S256x1 : FVec F S256x1 .f32) broadcasts_S256x1_S256x384)) bitsLt_bf16_f32

/-- One head's weights, as read, flattened and rounded. -/
def raw (db : Fin 2) (bh : Fin 16) (h : Fin 8) : Vec F S1x1x1x1x64x80 .f32 := View.ld X.aw (rA db bh h)
def att0 (db : Fin 2) (bh : Fin 16) (h : Fin 8) : FVec F S64x80 .f32 := shapeCast S64x80 (raw X db bh h) shapeCasts_S1x1x1x1x64x80_S64x80
def att (db : Fin 2) (bh : Fin 16) (h : Fin 8) : FVec F S64x80 .bf16 := truncf .bf16 (att0 X db bh h) bitsLt_bf16_f32

/-- The group's own rows, its gathered rows, and the one above the other. -/
def xs (db : Fin 2) (bh : Fin 16) : FVec F S64x384 .bf16 := extractStridedSlice S64x384 ![64 * bh.val, 0] (xp X db) (slices_xs bh)
def gs (db : Fin 2) (bh : Fin 16) : FVec F S16x384 .bf16 := extractStridedSlice S16x384 ![16 * bh.val, 0] (gp X db) (slices_gs bh)
def vcat (db : Fin 2) (bh : Fin 16) : FVec F S80x384 .bf16 :=
  concatenate S80x384 0 [⟨S64x384, xs X db bh⟩, ⟨S16x384, gs X db bh⟩] concatenates_S64x384_S16x384_S80x384_d0
/-- One head's columns of them, and what the head makes of them. -/
def vh (db : Fin 2) (bh : Fin 16) (h : Fin 8) : FVec F S80x48 .bf16 := extractStridedSlice S80x48 ![0, 48 * h.val] (vcat X db bh) (slices_vh h)
def zero48 : FVec F S64x48 .f32 := constant S64x48 .f32 0x00000000#32
def hd (db : Fin 2) (bh : Fin 16) (h : Fin 8) : FVec F S64x48 .f32 :=
  matmul dot_S64x80_S80x48_S64x48_1_0_0_1_n_n none (att X db bh h) (vh X db bh h) zero48

/-- The eight heads side by side. -/
def obs (db : Fin 2) (bh : Fin 16) : FVec F S64x384 .bf16 :=
  truncf .bf16 (concatenate S64x384 1 [⟨S64x48, hd X db bh 0⟩, ⟨S64x48, hd X db bh 1⟩, ⟨S64x48, hd X db bh 2⟩, ⟨S64x48, hd X db bh 3⟩, ⟨S64x48, hd X db bh 4⟩, ⟨S64x48, hd X db bh 5⟩, ⟨S64x48, hd X db bh 6⟩, ⟨S64x48, hd X db bh 7⟩]
    concatenates_S64x48_S64x48_S64x48_S64x48_S64x48_S64x48_S64x48_S64x48_S64x384_d1 : FVec F S64x384 .f32) bitsLt_bf16_f32

/-- The sixteen groups one above the other, projected back. -/
def half (db : Fin 2) : FVec F S128x8x384 .f32 :=
  shapeCast S128x8x384 (addf (matmul dot_S1024x384_S384x384_S1024x384_1_0_0_1_n_n none
    (concatenate S1024x384 0 [⟨S64x384, obs X db 0⟩, ⟨S64x384, obs X db 1⟩, ⟨S64x384, obs X db 2⟩, ⟨S64x384, obs X db 3⟩, ⟨S64x384, obs X db 4⟩, ⟨S64x384, obs X db 5⟩, ⟨S64x384, obs X db 6⟩, ⟨S64x384, obs X db 7⟩, ⟨S64x384, obs X db 8⟩, ⟨S64x384, obs X db 9⟩, ⟨S64x384, obs X db 10⟩, ⟨S64x384, obs X db 11⟩, ⟨S64x384, obs X db 12⟩, ⟨S64x384, obs X db 13⟩, ⟨S64x384, obs X db 14⟩, ⟨S64x384, obs X db 15⟩]
      concatenates_S64x384_S64x384_S64x384_S64x384_S64x384_S64x384_S64x384_S64x384_S64x384_S64x384_S64x384_S64x384_S64x384_S64x384_S64x384_S64x384_S1024x384_d0)
    (woV X) (constant S1024x384 .f32 0x00000000#32)) (broadcastTo S1024x384 (boV X) broadcasts_S1x384_S1024x384)) shapeCasts_S1024x384_S128x8x384

/-- A half as it is stored. -/
def slab (db : Fin 2) : Vec F S1x128x8x384 .f32 := shapeCast S1x128x8x384 (half X db) shapeCasts_S128x8x384_S1x128x8x384

end Values

/-! ## The rules -/

section Rules

variable [FloatOps F]

/-- Run from `pre`, the program returns `v` and leaves `post`. -/
def Steps (c : Dev nD) (pre post : sProp 𝕄) {α : Type} (p : Prog (TpuEff nD τ sig (Elt F) Λ₀ .tc) α) (v : α) : Prop :=
  ∀ Q : α → sProp 𝕄, iprop(pre ∗ (post -∗ Q v)) ⊢ wp frame (wpE (defs₀ (F := F)) 𝒱₀ (T c) none) Set.univ p Q

theorem Steps.ret {c : Dev nD} {R : sProp 𝕄} {α : Type} {v v' : α} (h : v = v') :
    Steps (F := F) c R R (pure v) v' := by
  subst h
  intro Q
  rw [wp_pure]
  iintro ⟨HR, HQ⟩
  imodintro
  iapply HQ
  iexact HR

theorem Steps.bind {c : Dev nD} {R S U : sProp 𝕄} {α β : Type} {p : Prog (TpuEff nD τ sig (Elt F) Λ₀ .tc) α}
    {k : α → Prog (TpuEff nD τ sig (Elt F) Λ₀ .tc) β} {v : α} {w : β}
    (h : Steps c R S p v) (h' : Steps c S U (k v) w) : Steps c R U (p >>= k) w := by
  intro Q
  rw [wp_bind]
  iintro ⟨HR, HQ⟩
  iapply (h (fun a => wp frame (wpE (defs₀ (F := F)) 𝒱₀ (T c) none) Set.univ (k a) Q))
  isplitl [HR]; · iexact HR
  iintro HS
  iapply (h' Q)
  isplitl [HS]; · iexact HS
  iexact HQ

variable (c : Dev nD) (b : Bufs) (X : Blocks F) (fo : Buf (Elt F) (b.o.view.loc (T c : Thread nD τ)))

/-- The buffers during the body: the eight at their contents, the result's at the writes made so far. -/
def Holds (L : List (View.Piece (Elt F) S2x128x8x384 .f32)) : sProp 𝕄 :=
  iprop(owns (T c) b.x fullShare X.x ∗ owns (T c) b.g fullShare X.g ∗ owns (T c) b.aw fullShare X.aw ∗ owns (T c) b.w fullShare X.w ∗ owns (T c) b.wi fullShare X.wi ∗ owns (T c) b.bi fullShare X.bi ∗ owns (T c) b.wo fullShare X.wo ∗ owns (T c) b.bo fullShare X.bo
    ∗ (b.o.view.loc (T c) ↦[b.o.view.set]{fullShare} b.o.view.writes (Elt F) fo L))

/-- A load through one of the buffers held. -/
theorem load_owns {s : Shape} {e : EltTy} (m : Memref sig .tc .vmem s e) (x : s.Idx → Elt F e) (r : Rect s) (hl : m.view.LoadsAt r.toLoadRect)
    {α : Type} (k : (r.shape.Idx → Elt F e) → Prog (TpuEff nD τ sig (Elt F) Λ₀ .tc) α) (Q : α → sProp 𝕄) :
    iprop(owns (T c) m fullShare x ∗ (owns (T c) m fullShare x -∗ wp frame (wpE (defs₀ (F := F)) 𝒱₀ (T c) none) Set.univ (k (View.ld x r)) Q))
      ⊢ wp frame (wpE (defs₀ (F := F)) 𝒱₀ (T c) none) Set.univ (.op (.load m r.toLoadRect hl) k) Q := by
  unfold owns
  iintro ⟨⟨%f, %hf, Hm⟩, HQ⟩
  subst hf
  iapply (wp_load 𝒱₀ (T c) none Set.univ (View.setOn_subset_set _ _)) $$ Hm
  iintro Hm
  iapply HQ
  iexists f; isplitr
  · ipureintro; rfl
  iexact Hm

variable {c b X fo} {L : List (View.Piece (Elt F) S2x128x8x384 .f32)}

theorem Steps.load_x (r : Rect S2x128x8x384) (hl : b.x.view.LoadsAt r.toLoadRect) :
    Steps c (Holds c b X fo L) (Holds c b X fo L) (Prog.lift (.load b.x r.toLoadRect hl)) (View.ld X.x r) := by
  intro Q
  unfold Holds
  iintro ⟨⟨Hx, Hg, Haw, Hw, Hwi, Hbi, Hwo, Hbo, Ho⟩, HQ⟩
  iapply (load_owns c b.x X.x r hl _ Q)
  isplitl [Hx]; · iexact Hx
  iintro Hx
  rw [wp_ret]
  imodintro
  iapply HQ
  isplitl [Hx]; · iexact Hx
  isplitl [Hg]; · iexact Hg
  isplitl [Haw]; · iexact Haw
  isplitl [Hw]; · iexact Hw
  isplitl [Hwi]; · iexact Hwi
  isplitl [Hbi]; · iexact Hbi
  isplitl [Hwo]; · iexact Hwo
  isplitl [Hbo]; · iexact Hbo
  iexact Ho

theorem Steps.load_g (r : Rect S2x16x1x16x384) (hl : b.g.view.LoadsAt r.toLoadRect) :
    Steps c (Holds c b X fo L) (Holds c b X fo L) (Prog.lift (.load b.g r.toLoadRect hl)) (View.ld X.g r) := by
  intro Q
  unfold Holds
  iintro ⟨⟨Hx, Hg, Haw, Hw, Hwi, Hbi, Hwo, Hbo, Ho⟩, HQ⟩
  iapply (load_owns c b.g X.g r hl _ Q)
  isplitl [Hg]; · iexact Hg
  iintro Hg
  rw [wp_ret]
  imodintro
  iapply HQ
  isplitl [Hx]; · iexact Hx
  isplitl [Hg]; · iexact Hg
  isplitl [Haw]; · iexact Haw
  isplitl [Hw]; · iexact Hw
  isplitl [Hwi]; · iexact Hwi
  isplitl [Hbi]; · iexact Hbi
  isplitl [Hwo]; · iexact Hwo
  isplitl [Hbo]; · iexact Hbo
  iexact Ho

theorem Steps.load_aw (r : Rect S8x2x16x1x64x80) (hl : b.aw.view.LoadsAt r.toLoadRect) :
    Steps c (Holds c b X fo L) (Holds c b X fo L) (Prog.lift (.load b.aw r.toLoadRect hl)) (View.ld X.aw r) := by
  intro Q
  unfold Holds
  iintro ⟨⟨Hx, Hg, Haw, Hw, Hwi, Hbi, Hwo, Hbo, Ho⟩, HQ⟩
  iapply (load_owns c b.aw X.aw r hl _ Q)
  isplitl [Haw]; · iexact Haw
  iintro Haw
  rw [wp_ret]
  imodintro
  iapply HQ
  isplitl [Hx]; · iexact Hx
  isplitl [Hg]; · iexact Hg
  isplitl [Haw]; · iexact Haw
  isplitl [Hw]; · iexact Hw
  isplitl [Hwi]; · iexact Hwi
  isplitl [Hbi]; · iexact Hbi
  isplitl [Hwo]; · iexact Hwo
  isplitl [Hbo]; · iexact Hbo
  iexact Ho

theorem Steps.load_w (r : Rect S2x1x256x1) (hl : b.w.view.LoadsAt r.toLoadRect) :
    Steps c (Holds c b X fo L) (Holds c b X fo L) (Prog.lift (.load b.w r.toLoadRect hl)) (View.ld X.w r) := by
  intro Q
  unfold Holds
  iintro ⟨⟨Hx, Hg, Haw, Hw, Hwi, Hbi, Hwo, Hbo, Ho⟩, HQ⟩
  iapply (load_owns c b.w X.w r hl _ Q)
  isplitl [Hw]; · iexact Hw
  iintro Hw
  rw [wp_ret]
  imodintro
  iapply HQ
  isplitl [Hx]; · iexact Hx
  isplitl [Hg]; · iexact Hg
  isplitl [Haw]; · iexact Haw
  isplitl [Hw]; · iexact Hw
  isplitl [Hwi]; · iexact Hwi
  isplitl [Hbi]; · iexact Hbi
  isplitl [Hwo]; · iexact Hwo
  isplitl [Hbo]; · iexact Hbo
  iexact Ho

theorem Steps.load_wi (r : Rect S384x384) (hl : b.wi.view.LoadsAt r.toLoadRect) :
    Steps c (Holds c b X fo L) (Holds c b X fo L) (Prog.lift (.load b.wi r.toLoadRect hl)) (View.ld X.wi r) := by
  intro Q
  unfold Holds
  iintro ⟨⟨Hx, Hg, Haw, Hw, Hwi, Hbi, Hwo, Hbo, Ho⟩, HQ⟩
  iapply (load_owns c b.wi X.wi r hl _ Q)
  isplitl [Hwi]; · iexact Hwi
  iintro Hwi
  rw [wp_ret]
  imodintro
  iapply HQ
  isplitl [Hx]; · iexact Hx
  isplitl [Hg]; · iexact Hg
  isplitl [Haw]; · iexact Haw
  isplitl [Hw]; · iexact Hw
  isplitl [Hwi]; · iexact Hwi
  isplitl [Hbi]; · iexact Hbi
  isplitl [Hwo]; · iexact Hwo
  isplitl [Hbo]; · iexact Hbo
  iexact Ho

theorem Steps.load_bi (r : Rect S1x384) (hl : b.bi.view.LoadsAt r.toLoadRect) :
    Steps c (Holds c b X fo L) (Holds c b X fo L) (Prog.lift (.load b.bi r.toLoadRect hl)) (View.ld X.bi r) := by
  intro Q
  unfold Holds
  iintro ⟨⟨Hx, Hg, Haw, Hw, Hwi, Hbi, Hwo, Hbo, Ho⟩, HQ⟩
  iapply (load_owns c b.bi X.bi r hl _ Q)
  isplitl [Hbi]; · iexact Hbi
  iintro Hbi
  rw [wp_ret]
  imodintro
  iapply HQ
  isplitl [Hx]; · iexact Hx
  isplitl [Hg]; · iexact Hg
  isplitl [Haw]; · iexact Haw
  isplitl [Hw]; · iexact Hw
  isplitl [Hwi]; · iexact Hwi
  isplitl [Hbi]; · iexact Hbi
  isplitl [Hwo]; · iexact Hwo
  isplitl [Hbo]; · iexact Hbo
  iexact Ho

theorem Steps.load_wo (r : Rect S384x384) (hl : b.wo.view.LoadsAt r.toLoadRect) :
    Steps c (Holds c b X fo L) (Holds c b X fo L) (Prog.lift (.load b.wo r.toLoadRect hl)) (View.ld X.wo r) := by
  intro Q
  unfold Holds
  iintro ⟨⟨Hx, Hg, Haw, Hw, Hwi, Hbi, Hwo, Hbo, Ho⟩, HQ⟩
  iapply (load_owns c b.wo X.wo r hl _ Q)
  isplitl [Hwo]; · iexact Hwo
  iintro Hwo
  rw [wp_ret]
  imodintro
  iapply HQ
  isplitl [Hx]; · iexact Hx
  isplitl [Hg]; · iexact Hg
  isplitl [Haw]; · iexact Haw
  isplitl [Hw]; · iexact Hw
  isplitl [Hwi]; · iexact Hwi
  isplitl [Hbi]; · iexact Hbi
  isplitl [Hwo]; · iexact Hwo
  isplitl [Hbo]; · iexact Hbo
  iexact Ho

theorem Steps.load_bo (r : Rect S1x384) (hl : b.bo.view.LoadsAt r.toLoadRect) :
    Steps c (Holds c b X fo L) (Holds c b X fo L) (Prog.lift (.load b.bo r.toLoadRect hl)) (View.ld X.bo r) := by
  intro Q
  unfold Holds
  iintro ⟨⟨Hx, Hg, Haw, Hw, Hwi, Hbi, Hwo, Hbo, Ho⟩, HQ⟩
  iapply (load_owns c b.bo X.bo r hl _ Q)
  isplitl [Hbo]; · iexact Hbo
  iintro Hbo
  rw [wp_ret]
  imodintro
  iapply HQ
  isplitl [Hx]; · iexact Hx
  isplitl [Hg]; · iexact Hg
  isplitl [Haw]; · iexact Haw
  isplitl [Hw]; · iexact Hw
  isplitl [Hwi]; · iexact Hwi
  isplitl [Hbi]; · iexact Hbi
  isplitl [Hwo]; · iexact Hwo
  isplitl [Hbo]; · iexact Hbo
  iexact Ho

/-- The result's block is read before each store and the value dropped. -/
theorem Steps.load_o (r : Rect S2x128x8x384) (hl : b.o.view.LoadsAt r.toLoadRect) :
    ∃ v, Steps c (Holds c b X fo L) (Holds c b X fo L) (Prog.lift (.load b.o r.toLoadRect hl)) v := by
  refine ⟨b.o.view.readAt (Elt F) r.toLoadRect (b.o.view.writes (Elt F) fo L), fun Q => ?_⟩
  unfold Holds
  iintro ⟨⟨Hx, Hg, Haw, Hw, Hwi, Hbi, Hwo, Hbo, Ho⟩, HQ⟩
  iapply (wp_load 𝒱₀ (T c) none Set.univ (View.setOn_subset_set _ _)) $$ Ho
  iintro Ho
  rw [wp_ret]
  imodintro
  iapply HQ
  isplitl [Hx]; · iexact Hx
  isplitl [Hg]; · iexact Hg
  isplitl [Haw]; · iexact Haw
  isplitl [Hw]; · iexact Hw
  isplitl [Hwi]; · iexact Hwi
  isplitl [Hbi]; · iexact Hbi
  isplitl [Hwo]; · iexact Hwo
  isplitl [Hbo]; · iexact Hbo
  iexact Ho

theorem Steps.store_o (r : Rect S2x128x8x384) (w : r.shape.Idx → Elt F .f32) (hx : (b.o.access r).Stores Finset.univ)
    (hm : Finset.univ = (Finset.univ : Finset r.shape.Idx) ∨ ∀ a, r.stride a = 1) :
    Steps c (Holds c b X fo L) (Holds c b X fo (⟨r, w⟩ :: L)) (Prog.lift (.store b.o r w Finset.univ hx hm)) ⟨⟩ := by
  intro Q
  unfold Holds
  iintro ⟨⟨Hx, Hg, Haw, Hw, Hwi, Hbi, Hwo, Hbo, Ho⟩, HQ⟩
  have hS : (b.o.access r).set ⊆ b.o.view.set := (View.set_slice_subset_setOn _ _).trans (View.setOn_subset_set _ _)
  iapply (wp_store_writes (defs := defs₀ (F := F)) (m := b.o) (r := r) (w := w) (hx := hx) (hm := hm) (f := fo) (L := L) (Q := Q)
    (S := b.o.view.set) (k := fun x => .ret x) 𝒱₀ (T c) none Set.univ hS) $$ Ho
  iintro Ho
  rw [wp_ret]
  imodintro
  iapply HQ
  isplitl [Hx]; · iexact Hx
  isplitl [Hg]; · iexact Hg
  isplitl [Haw]; · iexact Haw
  isplitl [Hw]; · iexact Hw
  isplitl [Hwi]; · iexact Hwi
  isplitl [Hbi]; · iexact Hbi
  isplitl [Hwo]; · iexact Hwo
  isplitl [Hbo]; · iexact Hbo
  iexact Ho

end Rules

end Cert.Proof.Gather

end
-- ==== Proof.TcParts.lean ====
/-
  The body part by part: what each stretch of its statements returns, given what the ones before it did; then the whole.
-/
module

public import proofs.«01_k».proof.Proof.TcRules

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable {c : Dev nD} {b : Bufs} {X : Blocks F} {fo : Buf (Elt F) (b.o.view.loc (T c : Thread nD τ))}
  {L : List (View.Piece (Elt F) S2x128x8x384 .f32)} {i : grid1.Coords}

set_option maxRecDepth 65536

theorem part1 : Steps c (Holds c b X fo L) (Holds c b X fo L)
    (k1_part1 i b.x b.hx b.g b.hg b.aw b.haw b.w b.hw b.wi b.hwi b.bi b.hbi b.wo b.hwo b.bo b.hbo b.o b.ho ) ⟨wiV X, woV X, xp X 0, gp X 0, vcat X 0 0⟩ := by
  rw [k1_part1_eq_skeleton]
  unfold k1_part1_skel
  refine Steps.bind (Steps.load_wi _ _) ?_
  refine Steps.bind (Steps.load_wo _ _) ?_
  refine Steps.bind (Steps.load_x _ _) ?_
  refine Steps.bind (Steps.load_bi _ _) ?_
  refine Steps.bind (Steps.load_g _ _) ?_
  refine Steps.bind (Steps.load_bi _ _) ?_
  refine Steps.bind (Steps.load_w _ _) ?_
  exact Steps.ret rfl

theorem part2 : Steps c (Holds c b X fo L) (Holds c b X fo L)
    (k1_part2 i b.x b.hx b.g b.hg b.aw b.haw b.w b.hw b.wi b.hwi b.bi b.hbi b.wo b.hwo b.bo b.hbo b.o b.ho (vcat X 0 0)) ⟨hd X 0 0 0, hd X 0 0 1, hd X 0 0 2, hd X 0 0 3, hd X 0 0 4⟩ := by
  rw [k1_part2_eq_skeleton]
  unfold k1_part2_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part3 : Steps c (Holds c b X fo L) (Holds c b X fo L)
    (k1_part3 i b.x b.hx b.g b.hg b.aw b.haw b.w b.hw b.wi b.hwi b.bi b.hbi b.wo b.hwo b.bo b.hbo b.o b.ho (xp X 0) (gp X 0) (vcat X 0 0) (hd X 0 0 0) (hd X 0 0 1) (hd X 0 0 2) (hd X 0 0 3) (hd X 0 0 4)) ⟨obs X 0 0, vcat X 0 1, hd X 0 1 0, att X 0 1 1, vh X 0 1 1, zero48⟩ := by
  rw [k1_part3_eq_skeleton]
  unfold k1_part3_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part4 : Steps c (Holds c b X fo L) (Holds c b X fo L)
    (k1_part4 i b.x b.hx b.g b.hg b.aw b.haw b.w b.hw b.wi b.hwi b.bi b.hbi b.wo b.hwo b.bo b.hbo b.o b.ho (vcat X 0 1) (att X 0 1 1) (vh X 0 1 1) zero48) ⟨hd X 0 1 1, hd X 0 1 2, hd X 0 1 3, hd X 0 1 4, hd X 0 1 5, att X 0 1 6, vh X 0 1 6, zero48⟩ := by
  rw [k1_part4_eq_skeleton]
  unfold k1_part4_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part5 : Steps c (Holds c b X fo L) (Holds c b X fo L)
    (k1_part5 i b.x b.hx b.g b.hg b.aw b.haw b.w b.hw b.wi b.hwi b.bi b.hbi b.wo b.hwo b.bo b.hbo b.o b.ho (xp X 0) (gp X 0) (vcat X 0 1) (hd X 0 1 0) (hd X 0 1 1) (hd X 0 1 2) (hd X 0 1 3) (hd X 0 1 4) (hd X 0 1 5) (att X 0 1 6) (vh X 0 1 6) zero48) ⟨obs X 0 1, vcat X 0 2, hd X 0 2 0, hd X 0 2 1, hd X 0 2 2⟩ := by
  rw [k1_part5_eq_skeleton]
  unfold k1_part5_skel
  refine Steps.bind (Steps.load_aw _ _) ?_
  refine Steps.bind (Steps.load_aw _ _) ?_
  refine Steps.bind (Steps.load_aw _ _) ?_
  refine Steps.bind (Steps.load_aw _ _) ?_
  exact Steps.ret rfl

theorem part6 : Steps c (Holds c b X fo L) (Holds c b X fo L)
    (k1_part6 i b.x b.hx b.g b.hg b.aw b.haw b.w b.hw b.wi b.hwi b.bi b.hbi b.wo b.hwo b.bo b.hbo b.o b.ho (xp X 0) (gp X 0) (vcat X 0 2) (hd X 0 2 0) (hd X 0 2 1) (hd X 0 2 2)) ⟨obs X 0 2, vcat X 0 3⟩ := by
  rw [k1_part6_eq_skeleton]
  unfold k1_part6_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part7 : Steps c (Holds c b X fo L) (Holds c b X fo L)
    (k1_part7 i b.x b.hx b.g b.hg b.aw b.haw b.w b.hw b.wi b.hwi b.bi b.hbi b.wo b.hwo b.bo b.hbo b.o b.ho (vcat X 0 3)) ⟨hd X 0 3 0, hd X 0 3 1, hd X 0 3 2, hd X 0 3 3, hd X 0 3 4⟩ := by
  rw [k1_part7_eq_skeleton]
  unfold k1_part7_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part8 : Steps c (Holds c b X fo L) (Holds c b X fo L)
    (k1_part8 i b.x b.hx b.g b.hg b.aw b.haw b.w b.hw b.wi b.hwi b.bi b.hbi b.wo b.hwo b.bo b.hbo b.o b.ho (xp X 0) (gp X 0) (vcat X 0 3) (hd X 0 3 0) (hd X 0 3 1) (hd X 0 3 2) (hd X 0 3 3) (hd X 0 3 4)) ⟨obs X 0 3, vcat X 0 4, hd X 0 4 0, att0 X 0 4 1⟩ := by
  rw [k1_part8_eq_skeleton]
  unfold k1_part8_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part9 : Steps c (Holds c b X fo L) (Holds c b X fo L)
    (k1_part9 i b.x b.hx b.g b.hg b.aw b.haw b.w b.hw b.wi b.hwi b.bi b.hbi b.wo b.hwo b.bo b.hbo b.o b.ho (vcat X 0 4) (att0 X 0 4 1)) ⟨hd X 0 4 1, hd X 0 4 2, hd X 0 4 3, hd X 0 4 4, hd X 0 4 5, att0 X 0 4 6⟩ := by
  rw [k1_part9_eq_skeleton]
  unfold k1_part9_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part10 : Steps c (Holds c b X fo L) (Holds c b X fo L)
    (k1_part10 i b.x b.hx b.g b.hg b.aw b.haw b.w b.hw b.wi b.hwi b.bi b.hbi b.wo b.hwo b.bo b.hbo b.o b.ho (xp X 0) (gp X 0) (vcat X 0 4) (hd X 0 4 0) (hd X 0 4 1) (hd X 0 4 2) (hd X 0 4 3) (hd X 0 4 4) (hd X 0 4 5) (att0 X 0 4 6)) ⟨obs X 0 4, vcat X 0 5, hd X 0 5 0, hd X 0 5 1, hd X 0 5 2⟩ := by
  rw [k1_part10_eq_skeleton]
  unfold k1_part10_skel
  refine Steps.bind (Steps.load_aw _ _) ?_
  refine Steps.bind (Steps.load_aw _ _) ?_
  refine Steps.bind (Steps.load_aw _ _) ?_
  refine Steps.bind (Steps.load_aw _ _) ?_
  exact Steps.ret rfl

theorem part11 : Steps c (Holds c b X fo L) (Holds c b X fo L)
    (k1_part11 i b.x b.hx b.g b.hg b.aw b.haw b.w b.hw b.wi b.hwi b.bi b.hbi b.wo b.hwo b.bo b.hbo b.o b.ho (xp X 0) (vcat X 0 5) (hd X 0 5 0) (hd X 0 5 1) (hd X 0 5 2)) ⟨obs X 0 5, xs X 0 6⟩ := by
  rw [k1_part11_eq_skeleton]
  unfold k1_part11_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part12 : Steps c (Holds c b X fo L) (Holds c b X fo L)
    (k1_part12 i b.x b.hx b.g b.hg b.aw b.haw b.w b.hw b.wi b.hwi b.bi b.hbi b.wo b.hwo b.bo b.hbo b.o b.ho (gp X 0) (xs X 0 6)) ⟨vcat X 0 6, hd X 0 6 0, hd X 0 6 1, hd X 0 6 2, hd X 0 6 3, att X 0 6 4, vh X 0 6 4⟩ := by
  rw [k1_part12_eq_skeleton]
  unfold k1_part12_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part13 : Steps c (Holds c b X fo L) (Holds c b X fo L)
    (k1_part13 i b.x b.hx b.g b.hg b.aw b.haw b.w b.hw b.wi b.hwi b.bi b.hbi b.wo b.hwo b.bo b.hbo b.o b.ho (xp X 0) (gp X 0) (vcat X 0 6) (hd X 0 6 0) (hd X 0 6 1) (hd X 0 6 2) (hd X 0 6 3) (att X 0 6 4) (vh X 0 6 4)) ⟨obs X 0 6, vcat X 0 7, hd X 0 7 0⟩ := by
  rw [k1_part13_eq_skeleton]
  unfold k1_part13_skel
  refine Steps.bind (Steps.load_aw _ _) ?_
  refine Steps.bind (Steps.load_aw _ _) ?_
  refine Steps.bind (Steps.load_aw _ _) ?_
  refine Steps.bind (Steps.load_aw _ _) ?_
  exact Steps.ret rfl

theorem part14 : Steps c (Holds c b X fo L) (Holds c b X fo L)
    (k1_part14 i b.x b.hx b.g b.hg b.aw b.haw b.w b.hw b.wi b.hwi b.bi b.hbi b.wo b.hwo b.bo b.hbo b.o b.ho (vcat X 0 7)) ⟨hd X 0 7 1, hd X 0 7 2, hd X 0 7 3, hd X 0 7 4, hd X 0 7 5⟩ := by
  rw [k1_part14_eq_skeleton]
  unfold k1_part14_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part15 : Steps c (Holds c b X fo L) (Holds c b X fo L)
    (k1_part15 i b.x b.hx b.g b.hg b.aw b.haw b.w b.hw b.wi b.hwi b.bi b.hbi b.wo b.hwo b.bo b.hbo b.o b.ho (xp X 0) (gp X 0) (vcat X 0 7) (hd X 0 7 0) (hd X 0 7 1) (hd X 0 7 2) (hd X 0 7 3) (hd X 0 7 4) (hd X 0 7 5)) ⟨obs X 0 7, vcat X 0 8, hd X 0 8 0, hd X 0 8 1, hd X 0 8 2⟩ := by
  rw [k1_part15_eq_skeleton]
  unfold k1_part15_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part16 : Steps c (Holds c b X fo L) (Holds c b X fo L)
    (k1_part16 i b.x b.hx b.g b.hg b.aw b.haw b.w b.hw b.wi b.hwi b.bi b.hbi b.wo b.hwo b.bo b.hbo b.o b.ho (vcat X 0 8)) ⟨hd X 0 8 3, hd X 0 8 4, hd X 0 8 5, hd X 0 8 6, hd X 0 8 7⟩ := by
  rw [k1_part16_eq_skeleton]
  unfold k1_part16_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part17 : Steps c (Holds c b X fo L) (Holds c b X fo L)
    (k1_part17 i b.x b.hx b.g b.hg b.aw b.haw b.w b.hw b.wi b.hwi b.bi b.hbi b.wo b.hwo b.bo b.hbo b.o b.ho (xp X 0) (gp X 0) (hd X 0 8 0) (hd X 0 8 1) (hd X 0 8 2) (hd X 0 8 3) (hd X 0 8 4) (hd X 0 8 5) (hd X 0 8 6) (hd X 0 8 7)) ⟨obs X 0 8, vcat X 0 9, hd X 0 9 0, hd X 0 9 1, hd X 0 9 2, hd X 0 9 3, raw X 0 9 4⟩ := by
  rw [k1_part17_eq_skeleton]
  unfold k1_part17_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part18 : Steps c (Holds c b X fo L) (Holds c b X fo L)
    (k1_part18 i b.x b.hx b.g b.hg b.aw b.haw b.w b.hw b.wi b.hwi b.bi b.hbi b.wo b.hwo b.bo b.hbo b.o b.ho (xp X 0) (gp X 0) (vcat X 0 9) (hd X 0 9 0) (hd X 0 9 1) (hd X 0 9 2) (hd X 0 9 3) (raw X 0 9 4)) ⟨obs X 0 9, vcat X 0 10, hd X 0 10 0⟩ := by
  rw [k1_part18_eq_skeleton]
  unfold k1_part18_skel
  refine Steps.bind (Steps.load_aw _ _) ?_
  refine Steps.bind (Steps.load_aw _ _) ?_
  refine Steps.bind (Steps.load_aw _ _) ?_
  refine Steps.bind (Steps.load_aw _ _) ?_
  exact Steps.ret rfl

theorem part19 : Steps c (Holds c b X fo L) (Holds c b X fo L)
    (k1_part19 i b.x b.hx b.g b.hg b.aw b.haw b.w b.hw b.wi b.hwi b.bi b.hbi b.wo b.hwo b.bo b.hbo b.o b.ho (vcat X 0 10)) ⟨hd X 0 10 1, hd X 0 10 2, hd X 0 10 3, hd X 0 10 4, hd X 0 10 5⟩ := by
  rw [k1_part19_eq_skeleton]
  unfold k1_part19_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part20 : Steps c (Holds c b X fo L) (Holds c b X fo L)
    (k1_part20 i b.x b.hx b.g b.hg b.aw b.haw b.w b.hw b.wi b.hwi b.bi b.hbi b.wo b.hwo b.bo b.hbo b.o b.ho (xp X 0) (gp X 0) (vcat X 0 10) (hd X 0 10 0) (hd X 0 10 1) (hd X 0 10 2) (hd X 0 10 3) (hd X 0 10 4) (hd X 0 10 5)) ⟨obs X 0 10, vcat X 0 11, hd X 0 11 0, hd X 0 11 1, att X 0 11 2⟩ := by
  rw [k1_part20_eq_skeleton]
  unfold k1_part20_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part21 : Steps c (Holds c b X fo L) (Holds c b X fo L)
    (k1_part21 i b.x b.hx b.g b.hg b.aw b.haw b.w b.hw b.wi b.hwi b.bi b.hbi b.wo b.hwo b.bo b.hbo b.o b.ho (vcat X 0 11) (att X 0 11 2)) ⟨hd X 0 11 2, hd X 0 11 3, hd X 0 11 4, hd X 0 11 5, hd X 0 11 6, att X 0 11 7⟩ := by
  rw [k1_part21_eq_skeleton]
  unfold k1_part21_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part22 : Steps c (Holds c b X fo L) (Holds c b X fo L)
    (k1_part22 i b.x b.hx b.g b.hg b.aw b.haw b.w b.hw b.wi b.hwi b.bi b.hbi b.wo b.hwo b.bo b.hbo b.o b.ho (xp X 0) (gp X 0) (vcat X 0 11) (hd X 0 11 0) (hd X 0 11 1) (hd X 0 11 2) (hd X 0 11 3) (hd X 0 11 4) (hd X 0 11 5) (hd X 0 11 6) (att X 0 11 7)) ⟨obs X 0 11, vcat X 0 12, hd X 0 12 0, hd X 0 12 1, hd X 0 12 2, hd X 0 12 3⟩ := by
  rw [k1_part22_eq_skeleton]
  unfold k1_part22_skel
  refine Steps.bind (Steps.load_aw _ _) ?_
  refine Steps.bind (Steps.load_aw _ _) ?_
  refine Steps.bind (Steps.load_aw _ _) ?_
  refine Steps.bind (Steps.load_aw _ _) ?_
  exact Steps.ret rfl

theorem part23 : Steps c (Holds c b X fo L) (Holds c b X fo L)
    (k1_part23 i b.x b.hx b.g b.hg b.aw b.haw b.w b.hw b.wi b.hwi b.bi b.hbi b.wo b.hwo b.bo b.hbo b.o b.ho (xp X 0) (gp X 0) (vcat X 0 12) (hd X 0 12 0) (hd X 0 12 1) (hd X 0 12 2) (hd X 0 12 3)) ⟨obs X 0 12, vcat X 0 13, att X 0 13 0, vh X 0 13 0, zero48⟩ := by
  rw [k1_part23_eq_skeleton]
  unfold k1_part23_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part24 : Steps c (Holds c b X fo L) (Holds c b X fo L)
    (k1_part24 i b.x b.hx b.g b.hg b.aw b.haw b.w b.hw b.wi b.hwi b.bi b.hbi b.wo b.hwo b.bo b.hbo b.o b.ho (vcat X 0 13) (att X 0 13 0) (vh X 0 13 0) zero48) ⟨hd X 0 13 0, hd X 0 13 1, hd X 0 13 2, hd X 0 13 3, hd X 0 13 4, att X 0 13 5, vh X 0 13 5, zero48⟩ := by
  rw [k1_part24_eq_skeleton]
  unfold k1_part24_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part25 : Steps c (Holds c b X fo L) (Holds c b X fo L)
    (k1_part25 i b.x b.hx b.g b.hg b.aw b.haw b.w b.hw b.wi b.hwi b.bi b.hbi b.wo b.hwo b.bo b.hbo b.o b.ho (xp X 0) (gp X 0) (vcat X 0 13) (hd X 0 13 0) (hd X 0 13 1) (hd X 0 13 2) (hd X 0 13 3) (hd X 0 13 4) (att X 0 13 5) (vh X 0 13 5) zero48) ⟨obs X 0 13, vcat X 0 14, hd X 0 14 0, hd X 0 14 1⟩ := by
  rw [k1_part25_eq_skeleton]
  unfold k1_part25_skel
  refine Steps.bind (Steps.load_aw _ _) ?_
  refine Steps.bind (Steps.load_aw _ _) ?_
  refine Steps.bind (Steps.load_aw _ _) ?_
  refine Steps.bind (Steps.load_aw _ _) ?_
  exact Steps.ret rfl

theorem part26 : Steps c (Holds c b X fo L) (Holds c b X fo L)
    (k1_part26 i b.x b.hx b.g b.hg b.aw b.haw b.w b.hw b.wi b.hwi b.bi b.hbi b.wo b.hwo b.bo b.hbo b.o b.ho (vcat X 0 14)) ⟨hd X 0 14 2, hd X 0 14 3, hd X 0 14 4, hd X 0 14 5, hd X 0 14 6⟩ := by
  rw [k1_part26_eq_skeleton]
  unfold k1_part26_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part27 : Steps c (Holds c b X fo L) (Holds c b X fo L)
    (k1_part27 i b.x b.hx b.g b.hg b.aw b.haw b.w b.hw b.wi b.hwi b.bi b.hbi b.wo b.hwo b.bo b.hbo b.o b.ho (xp X 0) (gp X 0) (vcat X 0 14) (hd X 0 14 0) (hd X 0 14 1) (hd X 0 14 2) (hd X 0 14 3) (hd X 0 14 4) (hd X 0 14 5) (hd X 0 14 6)) ⟨obs X 0 14, vcat X 0 15, hd X 0 15 0, hd X 0 15 1, hd X 0 15 2, hd X 0 15 3⟩ := by
  rw [k1_part27_eq_skeleton]
  unfold k1_part27_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part28 : Steps c (Holds c b X fo L) (Holds c b X fo L)
    (k1_part28 i b.x b.hx b.g b.hg b.aw b.haw b.w b.hw b.wi b.hwi b.bi b.hbi b.wo b.hwo b.bo b.hbo b.o b.ho (woV X) (obs X 0 0) (obs X 0 1) (obs X 0 2) (obs X 0 3) (obs X 0 4) (obs X 0 5) (obs X 0 6) (obs X 0 7) (obs X 0 8) (obs X 0 9) (obs X 0 10) (obs X 0 11) (obs X 0 12) (obs X 0 13) (obs X 0 14) (vcat X 0 15) (hd X 0 15 0) (hd X 0 15 1) (hd X 0 15 2) (hd X 0 15 3)) (half X 0) := by
  rw [k1_part28_eq_skeleton]
  unfold k1_part28_skel
  refine Steps.bind (Steps.load_aw _ _) ?_
  refine Steps.bind (Steps.load_aw _ _) ?_
  refine Steps.bind (Steps.load_aw _ _) ?_
  refine Steps.bind (Steps.load_aw _ _) ?_
  refine Steps.bind (Steps.load_bo _ _) ?_
  exact Steps.ret rfl

theorem part29 : Steps c (Holds c b X fo L) (Holds c b X fo (⟨rX 0, slab X 0⟩ :: L))
    (k1_part29 i b.x b.hx b.g b.hg b.aw b.haw b.w b.hw b.wi b.hwi b.bi b.hbi b.wo b.hwo b.bo b.hbo b.o b.ho (wiV X) (half X 0)) ⟨xp X 1, gp X 1, vcat X 1 0, raw X 1 0 0⟩ := by
  rw [k1_part29_eq_skeleton]
  unfold k1_part29_skel
  obtain ⟨v, hv⟩ := Steps.load_o (c := c) (b := b) (X := X) (fo := fo) (L := L) (rX 0) (View.loadsAt_vmem h_S1x128x8x384)
  refine Steps.bind hv ?_
  refine Steps.bind (Steps.store_o (rX 0) (slab X 0) _ _) ?_
  refine Steps.bind (Steps.load_x _ _) ?_
  refine Steps.bind (Steps.load_bi _ _) ?_
  refine Steps.bind (Steps.load_g _ _) ?_
  refine Steps.bind (Steps.load_bi _ _) ?_
  refine Steps.bind (Steps.load_w _ _) ?_
  refine Steps.bind (Steps.load_aw _ _) ?_
  exact Steps.ret rfl

theorem part30 : Steps c (Holds c b X fo L) (Holds c b X fo L)
    (k1_part30 i b.x b.hx b.g b.hg b.aw b.haw b.w b.hw b.wi b.hwi b.bi b.hbi b.wo b.hwo b.bo b.hbo b.o b.ho (vcat X 1 0) (raw X 1 0 0)) ⟨hd X 1 0 0, hd X 1 0 1, hd X 1 0 2, hd X 1 0 3, hd X 1 0 4, raw X 1 0 5⟩ := by
  rw [k1_part30_eq_skeleton]
  unfold k1_part30_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part31 : Steps c (Holds c b X fo L) (Holds c b X fo L)
    (k1_part31 i b.x b.hx b.g b.hg b.aw b.haw b.w b.hw b.wi b.hwi b.bi b.hbi b.wo b.hwo b.bo b.hbo b.o b.ho (xp X 1) (gp X 1) (vcat X 1 0) (hd X 1 0 0) (hd X 1 0 1) (hd X 1 0 2) (hd X 1 0 3) (hd X 1 0 4) (raw X 1 0 5)) ⟨obs X 1 0, vcat X 1 1, hd X 1 1 0, hd X 1 1 1⟩ := by
  rw [k1_part31_eq_skeleton]
  unfold k1_part31_skel
  refine Steps.bind (Steps.load_aw _ _) ?_
  refine Steps.bind (Steps.load_aw _ _) ?_
  refine Steps.bind (Steps.load_aw _ _) ?_
  refine Steps.bind (Steps.load_aw _ _) ?_
  exact Steps.ret rfl

theorem part32 : Steps c (Holds c b X fo L) (Holds c b X fo L)
    (k1_part32 i b.x b.hx b.g b.hg b.aw b.haw b.w b.hw b.wi b.hwi b.bi b.hbi b.wo b.hwo b.bo b.hbo b.o b.ho (vcat X 1 1)) ⟨hd X 1 1 2, hd X 1 1 3, hd X 1 1 4, hd X 1 1 5, hd X 1 1 6⟩ := by
  rw [k1_part32_eq_skeleton]
  unfold k1_part32_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part33 : Steps c (Holds c b X fo L) (Holds c b X fo L)
    (k1_part33 i b.x b.hx b.g b.hg b.aw b.haw b.w b.hw b.wi b.hwi b.bi b.hbi b.wo b.hwo b.bo b.hbo b.o b.ho (xp X 1) (gp X 1) (vcat X 1 1) (hd X 1 1 0) (hd X 1 1 1) (hd X 1 1 2) (hd X 1 1 3) (hd X 1 1 4) (hd X 1 1 5) (hd X 1 1 6)) ⟨obs X 1 1, vcat X 1 2, hd X 1 2 0, hd X 1 2 1, hd X 1 2 2, att X 1 2 3⟩ := by
  rw [k1_part33_eq_skeleton]
  unfold k1_part33_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part34 : Steps c (Holds c b X fo L) (Holds c b X fo L)
    (k1_part34 i b.x b.hx b.g b.hg b.aw b.haw b.w b.hw b.wi b.hwi b.bi b.hbi b.wo b.hwo b.bo b.hbo b.o b.ho (xp X 1) (gp X 1) (vcat X 1 2) (hd X 1 2 0) (hd X 1 2 1) (hd X 1 2 2) (att X 1 2 3)) ⟨obs X 1 2, vcat X 1 3⟩ := by
  rw [k1_part34_eq_skeleton]
  unfold k1_part34_skel
  refine Steps.bind (Steps.load_aw _ _) ?_
  refine Steps.bind (Steps.load_aw _ _) ?_
  refine Steps.bind (Steps.load_aw _ _) ?_
  refine Steps.bind (Steps.load_aw _ _) ?_
  exact Steps.ret rfl

theorem part35 : Steps c (Holds c b X fo L) (Holds c b X fo L)
    (k1_part35 i b.x b.hx b.g b.hg b.aw b.haw b.w b.hw b.wi b.hwi b.bi b.hbi b.wo b.hwo b.bo b.hbo b.o b.ho (vcat X 1 3)) ⟨hd X 1 3 0, hd X 1 3 1, hd X 1 3 2, hd X 1 3 3, hd X 1 3 4⟩ := by
  rw [k1_part35_eq_skeleton]
  unfold k1_part35_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part36 : Steps c (Holds c b X fo L) (Holds c b X fo L)
    (k1_part36 i b.x b.hx b.g b.hg b.aw b.haw b.w b.hw b.wi b.hwi b.bi b.hbi b.wo b.hwo b.bo b.hbo b.o b.ho (xp X 1) (gp X 1) (vcat X 1 3) (hd X 1 3 0) (hd X 1 3 1) (hd X 1 3 2) (hd X 1 3 3) (hd X 1 3 4)) ⟨obs X 1 3, vcat X 1 4, hd X 1 4 0, att X 1 4 1, vh X 1 4 1, zero48⟩ := by
  rw [k1_part36_eq_skeleton]
  unfold k1_part36_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part37 : Steps c (Holds c b X fo L) (Holds c b X fo L)
    (k1_part37 i b.x b.hx b.g b.hg b.aw b.haw b.w b.hw b.wi b.hwi b.bi b.hbi b.wo b.hwo b.bo b.hbo b.o b.ho (vcat X 1 4) (att X 1 4 1) (vh X 1 4 1) zero48) ⟨hd X 1 4 1, hd X 1 4 2, hd X 1 4 3, hd X 1 4 4, hd X 1 4 5, att X 1 4 6, vh X 1 4 6, zero48⟩ := by
  rw [k1_part37_eq_skeleton]
  unfold k1_part37_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part38 : Steps c (Holds c b X fo L) (Holds c b X fo L)
    (k1_part38 i b.x b.hx b.g b.hg b.aw b.haw b.w b.hw b.wi b.hwi b.bi b.hbi b.wo b.hwo b.bo b.hbo b.o b.ho (xp X 1) (gp X 1) (vcat X 1 4) (hd X 1 4 0) (hd X 1 4 1) (hd X 1 4 2) (hd X 1 4 3) (hd X 1 4 4) (hd X 1 4 5) (att X 1 4 6) (vh X 1 4 6) zero48) ⟨obs X 1 4, vcat X 1 5, hd X 1 5 0, hd X 1 5 1, hd X 1 5 2⟩ := by
  rw [k1_part38_eq_skeleton]
  unfold k1_part38_skel
  refine Steps.bind (Steps.load_aw _ _) ?_
  refine Steps.bind (Steps.load_aw _ _) ?_
  refine Steps.bind (Steps.load_aw _ _) ?_
  refine Steps.bind (Steps.load_aw _ _) ?_
  exact Steps.ret rfl

theorem part39 : Steps c (Holds c b X fo L) (Holds c b X fo L)
    (k1_part39 i b.x b.hx b.g b.hg b.aw b.haw b.w b.hw b.wi b.hwi b.bi b.hbi b.wo b.hwo b.bo b.hbo b.o b.ho (xp X 1) (gp X 1) (vcat X 1 5) (hd X 1 5 0) (hd X 1 5 1) (hd X 1 5 2)) ⟨obs X 1 5, vcat X 1 6⟩ := by
  rw [k1_part39_eq_skeleton]
  unfold k1_part39_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part40 : Steps c (Holds c b X fo L) (Holds c b X fo L)
    (k1_part40 i b.x b.hx b.g b.hg b.aw b.haw b.w b.hw b.wi b.hwi b.bi b.hbi b.wo b.hwo b.bo b.hbo b.o b.ho (vcat X 1 6)) ⟨hd X 1 6 0, hd X 1 6 1, hd X 1 6 2, hd X 1 6 3, hd X 1 6 4⟩ := by
  rw [k1_part40_eq_skeleton]
  unfold k1_part40_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part41 : Steps c (Holds c b X fo L) (Holds c b X fo L)
    (k1_part41 i b.x b.hx b.g b.hg b.aw b.haw b.w b.hw b.wi b.hwi b.bi b.hbi b.wo b.hwo b.bo b.hbo b.o b.ho (xp X 1) (gp X 1) (vcat X 1 6) (hd X 1 6 0) (hd X 1 6 1) (hd X 1 6 2) (hd X 1 6 3) (hd X 1 6 4)) ⟨obs X 1 6, vcat X 1 7, hd X 1 7 0, att0 X 1 7 1⟩ := by
  rw [k1_part41_eq_skeleton]
  unfold k1_part41_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part42 : Steps c (Holds c b X fo L) (Holds c b X fo L)
    (k1_part42 i b.x b.hx b.g b.hg b.aw b.haw b.w b.hw b.wi b.hwi b.bi b.hbi b.wo b.hwo b.bo b.hbo b.o b.ho (vcat X 1 7) (att0 X 1 7 1)) ⟨hd X 1 7 1, hd X 1 7 2, hd X 1 7 3, hd X 1 7 4, hd X 1 7 5, att0 X 1 7 6⟩ := by
  rw [k1_part42_eq_skeleton]
  unfold k1_part42_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part43 : Steps c (Holds c b X fo L) (Holds c b X fo L)
    (k1_part43 i b.x b.hx b.g b.hg b.aw b.haw b.w b.hw b.wi b.hwi b.bi b.hbi b.wo b.hwo b.bo b.hbo b.o b.ho (xp X 1) (gp X 1) (vcat X 1 7) (hd X 1 7 0) (hd X 1 7 1) (hd X 1 7 2) (hd X 1 7 3) (hd X 1 7 4) (hd X 1 7 5) (att0 X 1 7 6)) ⟨obs X 1 7, vcat X 1 8, hd X 1 8 0, hd X 1 8 1, hd X 1 8 2⟩ := by
  rw [k1_part43_eq_skeleton]
  unfold k1_part43_skel
  refine Steps.bind (Steps.load_aw _ _) ?_
  refine Steps.bind (Steps.load_aw _ _) ?_
  refine Steps.bind (Steps.load_aw _ _) ?_
  refine Steps.bind (Steps.load_aw _ _) ?_
  exact Steps.ret rfl

theorem part44 : Steps c (Holds c b X fo L) (Holds c b X fo L)
    (k1_part44 i b.x b.hx b.g b.hg b.aw b.haw b.w b.hw b.wi b.hwi b.bi b.hbi b.wo b.hwo b.bo b.hbo b.o b.ho (xp X 1) (vcat X 1 8) (hd X 1 8 0) (hd X 1 8 1) (hd X 1 8 2)) ⟨obs X 1 8, xs X 1 9⟩ := by
  rw [k1_part44_eq_skeleton]
  unfold k1_part44_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part45 : Steps c (Holds c b X fo L) (Holds c b X fo L)
    (k1_part45 i b.x b.hx b.g b.hg b.aw b.haw b.w b.hw b.wi b.hwi b.bi b.hbi b.wo b.hwo b.bo b.hbo b.o b.ho (gp X 1) (xs X 1 9)) ⟨vcat X 1 9, hd X 1 9 0, hd X 1 9 1, hd X 1 9 2, hd X 1 9 3, att X 1 9 4, vh X 1 9 4⟩ := by
  rw [k1_part45_eq_skeleton]
  unfold k1_part45_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part46 : Steps c (Holds c b X fo L) (Holds c b X fo L)
    (k1_part46 i b.x b.hx b.g b.hg b.aw b.haw b.w b.hw b.wi b.hwi b.bi b.hbi b.wo b.hwo b.bo b.hbo b.o b.ho (xp X 1) (gp X 1) (vcat X 1 9) (hd X 1 9 0) (hd X 1 9 1) (hd X 1 9 2) (hd X 1 9 3) (att X 1 9 4) (vh X 1 9 4)) ⟨obs X 1 9, vcat X 1 10, hd X 1 10 0⟩ := by
  rw [k1_part46_eq_skeleton]
  unfold k1_part46_skel
  refine Steps.bind (Steps.load_aw _ _) ?_
  refine Steps.bind (Steps.load_aw _ _) ?_
  refine Steps.bind (Steps.load_aw _ _) ?_
  refine Steps.bind (Steps.load_aw _ _) ?_
  exact Steps.ret rfl

theorem part47 : Steps c (Holds c b X fo L) (Holds c b X fo L)
    (k1_part47 i b.x b.hx b.g b.hg b.aw b.haw b.w b.hw b.wi b.hwi b.bi b.hbi b.wo b.hwo b.bo b.hbo b.o b.ho (vcat X 1 10)) ⟨hd X 1 10 1, hd X 1 10 2, hd X 1 10 3, hd X 1 10 4, hd X 1 10 5⟩ := by
  rw [k1_part47_eq_skeleton]
  unfold k1_part47_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part48 : Steps c (Holds c b X fo L) (Holds c b X fo L)
    (k1_part48 i b.x b.hx b.g b.hg b.aw b.haw b.w b.hw b.wi b.hwi b.bi b.hbi b.wo b.hwo b.bo b.hbo b.o b.ho (xp X 1) (gp X 1) (vcat X 1 10) (hd X 1 10 0) (hd X 1 10 1) (hd X 1 10 2) (hd X 1 10 3) (hd X 1 10 4) (hd X 1 10 5)) ⟨obs X 1 10, vcat X 1 11, hd X 1 11 0, hd X 1 11 1, hd X 1 11 2⟩ := by
  rw [k1_part48_eq_skeleton]
  unfold k1_part48_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part49 : Steps c (Holds c b X fo L) (Holds c b X fo L)
    (k1_part49 i b.x b.hx b.g b.hg b.aw b.haw b.w b.hw b.wi b.hwi b.bi b.hbi b.wo b.hwo b.bo b.hbo b.o b.ho (vcat X 1 11)) ⟨hd X 1 11 3, hd X 1 11 4, hd X 1 11 5, hd X 1 11 6, hd X 1 11 7⟩ := by
  rw [k1_part49_eq_skeleton]
  unfold k1_part49_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part50 : Steps c (Holds c b X fo L) (Holds c b X fo L)
    (k1_part50 i b.x b.hx b.g b.hg b.aw b.haw b.w b.hw b.wi b.hwi b.bi b.hbi b.wo b.hwo b.bo b.hbo b.o b.ho (xp X 1) (gp X 1) (hd X 1 11 0) (hd X 1 11 1) (hd X 1 11 2) (hd X 1 11 3) (hd X 1 11 4) (hd X 1 11 5) (hd X 1 11 6) (hd X 1 11 7)) ⟨obs X 1 11, vcat X 1 12, hd X 1 12 0, hd X 1 12 1, hd X 1 12 2, hd X 1 12 3, raw X 1 12 4⟩ := by
  rw [k1_part50_eq_skeleton]
  unfold k1_part50_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part51 : Steps c (Holds c b X fo L) (Holds c b X fo L)
    (k1_part51 i b.x b.hx b.g b.hg b.aw b.haw b.w b.hw b.wi b.hwi b.bi b.hbi b.wo b.hwo b.bo b.hbo b.o b.ho (xp X 1) (gp X 1) (vcat X 1 12) (hd X 1 12 0) (hd X 1 12 1) (hd X 1 12 2) (hd X 1 12 3) (raw X 1 12 4)) ⟨obs X 1 12, vcat X 1 13, hd X 1 13 0⟩ := by
  rw [k1_part51_eq_skeleton]
  unfold k1_part51_skel
  refine Steps.bind (Steps.load_aw _ _) ?_
  refine Steps.bind (Steps.load_aw _ _) ?_
  refine Steps.bind (Steps.load_aw _ _) ?_
  refine Steps.bind (Steps.load_aw _ _) ?_
  exact Steps.ret rfl

theorem part52 : Steps c (Holds c b X fo L) (Holds c b X fo L)
    (k1_part52 i b.x b.hx b.g b.hg b.aw b.haw b.w b.hw b.wi b.hwi b.bi b.hbi b.wo b.hwo b.bo b.hbo b.o b.ho (vcat X 1 13)) ⟨hd X 1 13 1, hd X 1 13 2, hd X 1 13 3, hd X 1 13 4, hd X 1 13 5⟩ := by
  rw [k1_part52_eq_skeleton]
  unfold k1_part52_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part53 : Steps c (Holds c b X fo L) (Holds c b X fo L)
    (k1_part53 i b.x b.hx b.g b.hg b.aw b.haw b.w b.hw b.wi b.hwi b.bi b.hbi b.wo b.hwo b.bo b.hbo b.o b.ho (xp X 1) (gp X 1) (vcat X 1 13) (hd X 1 13 0) (hd X 1 13 1) (hd X 1 13 2) (hd X 1 13 3) (hd X 1 13 4) (hd X 1 13 5)) ⟨obs X 1 13, vcat X 1 14, hd X 1 14 0, hd X 1 14 1, att X 1 14 2⟩ := by
  rw [k1_part53_eq_skeleton]
  unfold k1_part53_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part54 : Steps c (Holds c b X fo L) (Holds c b X fo L)
    (k1_part54 i b.x b.hx b.g b.hg b.aw b.haw b.w b.hw b.wi b.hwi b.bi b.hbi b.wo b.hwo b.bo b.hbo b.o b.ho (vcat X 1 14) (att X 1 14 2)) ⟨hd X 1 14 2, hd X 1 14 3, hd X 1 14 4, hd X 1 14 5, hd X 1 14 6, att X 1 14 7⟩ := by
  rw [k1_part54_eq_skeleton]
  unfold k1_part54_skel
  refine Steps.bind (Steps.load_aw _ _) ?_
  refine Steps.bind (Steps.load_aw _ _) ?_
  refine Steps.bind (Steps.load_aw _ _) ?_
  refine Steps.bind (Steps.load_aw _ _) ?_
  refine Steps.bind (Steps.load_aw _ _) ?_
  exact Steps.ret rfl

theorem part55 : Steps c (Holds c b X fo L) (Holds c b X fo L)
    (k1_part55 i b.x b.hx b.g b.hg b.aw b.haw b.w b.hw b.wi b.hwi b.bi b.hbi b.wo b.hwo b.bo b.hbo b.o b.ho (xp X 1) (gp X 1) (vcat X 1 14) (hd X 1 14 0) (hd X 1 14 1) (hd X 1 14 2) (hd X 1 14 3) (hd X 1 14 4) (hd X 1 14 5) (hd X 1 14 6) (att X 1 14 7)) ⟨obs X 1 14, vcat X 1 15, hd X 1 15 0, hd X 1 15 1, hd X 1 15 2, hd X 1 15 3⟩ := by
  rw [k1_part55_eq_skeleton]
  unfold k1_part55_skel
  refine Steps.bind (Steps.load_aw _ _) ?_
  refine Steps.bind (Steps.load_aw _ _) ?_
  refine Steps.bind (Steps.load_aw _ _) ?_
  refine Steps.bind (Steps.load_aw _ _) ?_
  exact Steps.ret rfl

theorem part56 : Steps c (Holds c b X fo L) (Holds c b X fo L)
    (k1_part56 i b.x b.hx b.g b.hg b.aw b.haw b.w b.hw b.wi b.hwi b.bi b.hbi b.wo b.hwo b.bo b.hbo b.o b.ho (woV X) (obs X 1 0) (obs X 1 1) (obs X 1 2) (obs X 1 3) (obs X 1 4) (obs X 1 5) (obs X 1 6) (obs X 1 7) (obs X 1 8) (obs X 1 9) (obs X 1 10) (obs X 1 11) (obs X 1 12) (obs X 1 13) (obs X 1 14) (vcat X 1 15) (hd X 1 15 0) (hd X 1 15 1) (hd X 1 15 2) (hd X 1 15 3)) (half X 1) := by
  rw [k1_part56_eq_skeleton]
  unfold k1_part56_skel
  refine Steps.bind (Steps.load_aw _ _) ?_
  refine Steps.bind (Steps.load_aw _ _) ?_
  refine Steps.bind (Steps.load_aw _ _) ?_
  refine Steps.bind (Steps.load_aw _ _) ?_
  refine Steps.bind (Steps.load_bo _ _) ?_
  exact Steps.ret rfl

/-- The whole body: it leaves the eight blocks as they were and stores the two halves. -/
theorem parts : Steps c (Holds c b X fo []) (Holds c b X fo [⟨rX 1, slab X 1⟩, ⟨rX 0, slab X 0⟩])
    (k1_part57 i b.x b.hx b.g b.hg b.aw b.haw b.w b.hw b.wi b.hwi b.bi b.hbi b.wo b.hwo b.bo b.hbo b.o b.ho) ⟨⟩ := by
  unfold k1_part57
  refine Steps.bind part1 ?_
  refine Steps.bind part2 ?_
  refine Steps.bind part3 ?_
  refine Steps.bind part4 ?_
  refine Steps.bind part5 ?_
  refine Steps.bind part6 ?_
  refine Steps.bind part7 ?_
  refine Steps.bind part8 ?_
  refine Steps.bind part9 ?_
  refine Steps.bind part10 ?_
  refine Steps.bind part11 ?_
  refine Steps.bind part12 ?_
  refine Steps.bind part13 ?_
  refine Steps.bind part14 ?_
  refine Steps.bind part15 ?_
  refine Steps.bind part16 ?_
  refine Steps.bind part17 ?_
  refine Steps.bind part18 ?_
  refine Steps.bind part19 ?_
  refine Steps.bind part20 ?_
  refine Steps.bind part21 ?_
  refine Steps.bind part22 ?_
  refine Steps.bind part23 ?_
  refine Steps.bind part24 ?_
  refine Steps.bind part25 ?_
  refine Steps.bind part26 ?_
  refine Steps.bind part27 ?_
  refine Steps.bind part28 ?_
  refine Steps.bind part29 ?_
  refine Steps.bind part30 ?_
  refine Steps.bind part31 ?_
  refine Steps.bind part32 ?_
  refine Steps.bind part33 ?_
  refine Steps.bind part34 ?_
  refine Steps.bind part35 ?_
  refine Steps.bind part36 ?_
  refine Steps.bind part37 ?_
  refine Steps.bind part38 ?_
  refine Steps.bind part39 ?_
  refine Steps.bind part40 ?_
  refine Steps.bind part41 ?_
  refine Steps.bind part42 ?_
  refine Steps.bind part43 ?_
  refine Steps.bind part44 ?_
  refine Steps.bind part45 ?_
  refine Steps.bind part46 ?_
  refine Steps.bind part47 ?_
  refine Steps.bind part48 ?_
  refine Steps.bind part49 ?_
  refine Steps.bind part50 ?_
  refine Steps.bind part51 ?_
  refine Steps.bind part52 ?_
  refine Steps.bind part53 ?_
  refine Steps.bind part54 ?_
  refine Steps.bind part55 ?_
  refine Steps.bind part56 ?_
  obtain ⟨v, hv⟩ := Steps.load_o (c := c) (b := b) (X := X) (fo := fo) (L := [⟨rX 0, slab X 0⟩]) (rX 1) (View.loadsAt_vmem h_S1x128x8x384)
  refine Steps.bind hv ?_
  refine Steps.bind (Steps.store_o (rX 1) (slab X 1) _ _) ?_
  exact Steps.ret rfl

theorem body_run : Steps c (Holds c b X fo []) (Holds c b X fo [⟨rX 1, slab X 1⟩, ⟨rX 0, slab X 0⟩])
    (cc1__tc_body i b.x b.hx b.g b.hg b.aw b.haw b.w b.hw b.wi b.hwi b.bi b.hbi b.wo b.hwo b.bo b.hbo b.o b.ho) ⟨⟩ := by
  unfold cc1__tc_body
  exact Steps.bind parts (Steps.ret rfl)

end Cert.Proof.Gather

end
-- ==== Proof.Rules.lean ====
/-
  The five steps of a trip as rules: start and await a copy in of one window of row numbers, gather its rows, start and
  await the copy of the rows out. Each is stated of the words the kernel computes for its slices, whatever they are, with
  the equations that say which window and slot they name.
-/
module

public import proofs.«01_k».proof.Proof.Setup

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MG F

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

/-! ## The value: row `r` of the result is the table's row of number `fi (0, r)` -/

def ix2x (r : Fin 196608) (l : Fin 128) : S196608x128.Idx := fun | 0 => r | 1 => l
def ix2i (r : Fin 49152) : S1x49152.Idx := fun | 0 => (0 : Fin 1) | 1 => r
def ix2o (r : Fin 49152) (l : Fin 128) : S49152x128.Idx := fun | 0 => r | 1 => l

/-- The rows the call leaves: the table's, at the listed numbers. -/
def gRows (fx : S196608x128.Idx → Elt F .f32) (fi : S1x49152.Idx → Elt F .i32) : S49152x128.Idx → Elt F .f32 := fun y =>
  fx (ix2x ⟨min (BitVec.toNat (fi (ix2i (y 0)))) 196607, by omega⟩ (y 1))

/-- Every listed number is a row of the table. -/
def InRange (fi : S1x49152.Idx → Elt F .i32) : Prop := ∀ y, BitVec.toNat (fi y) < 196608

theorem read_iWin (n : Fin 384) (f : S1x49152.Idx → Elt F .i32) (y : S1x128.Idx) :
    (iWin n).view.read (Elt F) f y = f (ix2i ⟨128 * n.val + (y 1).val, by have := n.isLt; have : (y 1).val < 128 := (y 1).isLt; omega⟩) := by
  refine (View.read_apply _ _).trans ((cast_eq _ _).trans (congrArg f ?_))
  have h0 : (y 0).val < 1 := (y 0).isLt
  funext a; apply Fin.ext; revert a; show ∀ a : Fin 2, _; intro a
  match a with
  | 0 => show 0 + 1 * (y 0).val = 0; omega
  | 1 => show 128 * n.val + 1 * (y 1).val = _; simp [ix2i]

theorem read_oWin (n : Fin 384) (f : S49152x128.Idx → Elt F .f32) (y : S128x128.Idx) :
    (oWin n).view.read (Elt F) f y
      = f (ix2o ⟨128 * n.val + (y 0).val, by have := n.isLt; have : (y 0).val < 128 := (y 0).isLt; omega⟩ (y 1)) := by
  refine (View.read_apply _ _).trans ((cast_eq _ _).trans (congrArg f ?_))
  funext a; apply Fin.ext; revert a; show ∀ a : Fin 2, _; intro a
  match a with
  | 0 => show 128 * n.val + 1 * (y 0).val = _; simp [ix2o]
  | 1 => show 0 + 1 * (y 1).val = _; simp [ix2o]

theorem read_xAll (f : S196608x128.Idx → Elt F .f32) (y : S196608x128.Idx) : xAll.view.read (Elt F) f y = f y := by
  refine (View.read_apply _ _).trans ((cast_eq _ _).trans (congrArg f ?_))
  funext a; apply Fin.ext
  match a with
  | 0 => show 0 + 1 * (y 0).val = _; omega
  | 1 => show 0 + 1 * (y 1).val = _; omega

def ix2s (k : Fin 128) : S1x128.Idx := fun | 0 => (0 : Fin 1) | 1 => k

/-- The list the stream reads is the slot's one row. -/
theorem read_iList (j : Fin 2) (f : S2x1x128.Idx → Elt F .i32) (k : S128.Idx) :
    (iList j).view.read (Elt F) f k = (iSlot j).view.read (Elt F) f (ix2s (k 0)) := by
  refine (View.read_apply _ _).trans ((cast_eq _ _).trans (Eq.trans ?_ ((View.read_apply _ _).trans (cast_eq _ _)).symm))
  refine congrArg f ?_
  show (iSlot j).view.emb ((Rect.unit (s := S1x128) ![0, 0] S1x128.size inb_S1x128_S1x128_0_0).emb (Shape.reshapeEquiv squeezes_S1x128_S128.numel_eq k)) = _
  refine congrArg _ ?_
  have hk : Shape.reshapeEquiv (s := S1x128) (s' := S128) squeezes_S1x128_S128.numel_eq k = ix2s (k 0) := by
    refine Shape.reshapeEquiv_eq_of_rowMajor _ ?_
    rw [Shape.rowMajor_val_one, Shape.rowMajor_val_two]
    simp [ix2s]
  rw [hk]
  funext a; apply Fin.ext
  match a with
  | 0 => show 0 + 1 * _ = _; simp
  | 1 => show 0 + 1 * _ = _; simp

/-- What the gather lands in a slot whose list is window `n` is window `n` of the rows. -/
theorem payload_eq (j : Fin 2) (n : Fin 384) (fx : S196608x128.Idx → Elt F .f32) (fi : S1x49152.Idx → Elt F .i32) (f : S2x1x128.Idx → Elt F .i32)
    (hf : (iSlot j).view.read (Elt F) f = (iWin n).view.read (Elt F) fi)
    (hn : S128.numel = S128x128.size gathers_S196608x128_S128x128.axis')
    (hin : ∀ x, BitVec.toNat ((iList j).view.read (Elt F) f x) < S196608x128.size gathers_S196608x128_S128x128.axis) :
    SparseCore.gatherPayload gathers_S196608x128_S128x128 (xAll.view.read (Elt F) fx) (SparseCore.rows ((iList j).view.read (Elt F) f) hn hin)
      = (oWin n).view.read (Elt F) (gRows fx fi) := by
  funext y
  rw [read_oWin]
  unfold SparseCore.gatherPayload gRows
  rw [read_xAll]
  refine congrArg fx ?_
  funext a; apply Fin.ext
  match a with
  | 0 =>
    have := Shape.Gathers.idx_axis gathers_S196608x128_S128x128 (SparseCore.rows ((iList j).view.read (Elt F) f) hn hin) y
    refine (congrArg Fin.val this).trans ?_
    have hx := hin (S128.rowMajor.symm ((y gathers_S196608x128_S128x128.axis').cast hn.symm))
    change BitVec.toNat ((iList j).view.read (Elt F) f (S128.rowMajor.symm ((y gathers_S196608x128_S128x128.axis').cast hn.symm))) = min _ 196607
    have hk : (S128.rowMajor.symm ((y gathers_S196608x128_S128x128.axis').cast hn.symm)) 0 = y 0 := by
      have := Shape.rowMajor_val_one (S128.rowMajor.symm ((y gathers_S196608x128_S128x128.axis').cast hn.symm))
      apply Fin.ext
      rw [Equiv.apply_symm_apply] at this
      exact this.symm
    rw [read_iList, hf, read_iWin] at hx ⊢
    have e : ∀ z : Fin 49152, 128 * n.val + (y 0).val = z.val →
        BitVec.toNat (fi (ix2i ⟨128 * n.val + ((ix2s ((S128.rowMajor.symm ((y gathers_S196608x128_S128x128.axis').cast hn.symm)) 0)) 1).val, by
          have := n.isLt; have : ((S128.rowMajor.symm ((y gathers_S196608x128_S128x128.axis').cast hn.symm)) 0).val < 128 := Fin.isLt _; show 128 * n.val + ((S128.rowMajor.symm ((y gathers_S196608x128_S128x128.axis').cast hn.symm)) 0).val < _; omega⟩)) = BitVec.toNat (fi (ix2i z)) := by
      intro z hz
      refine congrArg (fun z => BitVec.toNat (fi (ix2i z))) (Fin.ext ?_)
      show 128 * n.val + ((S128.rowMajor.symm ((y gathers_S196608x128_S128x128.axis').cast hn.symm)) 0).val = _
      rw [hk]; exact hz
    rw [e ⟨128 * n.val + (y 0).val, by have := n.isLt; have : (y 0).val < 128 := (y 0).isLt; omega⟩ rfl] at hx ⊢
    exact (Nat.min_eq_left (Nat.le_of_lt_succ hx)).symm
  | 1 =>
    exact Shape.Gathers.idx_of_ne gathers_S196608x128_S128x128 (SparseCore.rows ((iList j).view.read (Elt F) f) hn hin) y 1 (by decide)

/-! ## What the tile holds -/

section Held

variable (d : Dev nD) (L : grid0.Coords) (fx : Buf (Elt F) (xLoc d)) (fi : Buf (Elt F) (iLoc d))

/-- Window `n` of the row numbers; of the result, at `f`. -/
def iW (n : Fin 384) : sProp 𝕄 := (iWin n).view.loc (thr d L) ↦[(iWin n).view.set]{fullShare} fi
def oW (n : Fin 384) (f : Buf (Elt F) (oLoc d)) : sProp 𝕄 := (oWin n).view.loc (thr d L) ↦[(oWin n).view.set]{fullShare} f
/-- A slot at anything. -/
def iS (j : Fin 2) : sProp 𝕄 := iprop(∃ f, (iSlot j).view.loc (thr d L) ↦[(iSlot j).view.set]{fullShare} f)
def oS (j : Fin 2) : sProp 𝕄 := iprop(∃ f, (oSlot j).view.loc (thr d L) ↦[(oSlot j).view.set]{fullShare} f)
/-- A slot holding window `n`. -/
def iSF (j : Fin 2) (n : Fin 384) : sProp 𝕄 :=
  iprop(∃ f, ⌜(iSlot j).view.read (Elt F) f = (iWin n).view.read (Elt F) fi⌝ ∗ (iSlot j).view.loc (thr d L) ↦[(iSlot j).view.set]{fullShare} f)
def oSF (j : Fin 2) (n : Fin 384) : sProp 𝕄 :=
  iprop(∃ f, ⌜(oSlot j).view.read (Elt F) f = (oWin n).view.read (Elt F) (gRows fx fi)⌝ ∗ (oSlot j).view.loc (thr d L) ↦[(oSlot j).view.set]{fullShare} f)
/-- The table at a share. -/
def xSh (q : PosShare TreeShare) : sProp 𝕄 := xAll.view.loc (thr d L) ↦[xAll.view.set]{q} fx
/-- A cell at zero. -/
def sem0 (s : DmaSems sig S_) : sProp 𝕄 := semVal (thr d L, .dma s.sem) 0

def nI : ℕ := (iSlot 0).view.dmaCredit
def nO : ℕ := (oWin 0).view.dmaCredit
def nG : ℕ := (oSlot 0).view.dmaCredit

/-- The copy in of window `n` into slot `j`, the copy of slot `j` out to window `n`, the gather into slot `j`: in flight. -/
def inFl (j : Fin 2) (n : Fin 384) : sProp 𝕄 :=
  Transfers.Flight countersEmb (thr d L) (.dma (iSem j).sem) (default : HIx 1) nI iprop(iSF d L fi j n ∗ iW d L fi n)
def outFl (j : Fin 2) (n : Fin 384) : sProp 𝕄 :=
  Transfers.Flight countersEmb (thr d L) (.dma (oSem j).sem) (default : HIx 1) nO iprop(oW d L n (gRows fx fi) ∗ oS d L j)
def gFl (q : PosShare TreeShare) (j : Fin 2) (n : Fin 384) : sProp 𝕄 :=
  Transfers.Flight countersEmb (thr d L) (.dma cc0_scoped4.sem) (default : HIx 1) nG iprop(oSF d L fx fi j n ∗ xSh d L fx q ∗ iS d L j)

theorem iSF_iS (j : Fin 2) (n : Fin 384) : (iSF d L fi j n : sProp 𝕄) ⊢ iS d L j := by
  unfold iSF iS; iintro ⟨%f, -, H⟩; iexists f; iexact H

end Held

section Steps

theorem amount_i (j : Fin 2) (m : DmaSem sig) : (iSlot j).view.amount (.dma m) = nI := rfl
theorem amount_o (n : Fin 384) (m : DmaSem sig) : (oWin n).view.amount (.dma m) = nO := rfl
theorem credit_i (j : Fin 2) : (iSlot j).view.dmaCredit = nI := rfl
theorem credit_o (n : Fin 384) : (oWin n).view.dmaCredit = nO := rfl
theorem credit_g (j : Fin 2) : (oSlot j).view.dmaCredit = nG := rfl
theorem nI_pos : 0 < nI := View.dmaCredit_pos _ (by decide)
theorem nO_pos : 0 < nO := View.dmaCredit_pos _ (by decide)

theorem sum_credit (j : Fin 2) (h : S196608x128.Gathers 0 S128x128) :
    ∑ i, ((oSlot j).slice (S128x128.rowRect h.axis' i) (S128x128.stride_rowRect h.axis' i)).view.dmaCredit = nG := by
  revert j h; decide +kernel

theorem set_iList (j : Fin 2) : (iList j).view.set = (iSlot j).view.set := by
  unfold iList
  rw [Memref.set_view_squeeze]
  show ((iSlot j).view.slice _).set = _
  rw [View.set_slice]
  have : (Rect.unit (s := S1x128) ![0, 0] S1x128.size inb_S1x128_S1x128_0_0).set = Finset.univ := by
    ext x; simp only [Rect.mem_set_unit, Finset.mem_univ, iff_true]
    intro a
    have := (x a).isLt
    match a with
    | 0 => exact ⟨Nat.zero_le _, by simpa using this⟩
    | 1 => exact ⟨Nat.zero_le _, by simpa using this⟩
  rw [this]; rfl

variable [FloatOps F] (d : Dev nD) (L : grid0.Coords) (fx : Buf (Elt F) (xLoc d)) (fi : Buf (Elt F) (iLoc d))
variable {α : Type}

abbrev wpT (p : Prog (TpuEff nD τ sig (Elt F) Λ₀ (thr d L).2) α) (Q : α → sProp 𝕄) : sProp 𝕄 :=
  wp frame (wpE (defs₀ (F := F)) 𝒱₀ (thr d L) none) Set.univ p Q

theorem wp_copyIn (j : Fin 2) (n : Fin 384) {o1 : Fin 2 → ℕ} {o2 : Fin 3 → ℕ} {o3 : Fin 1 → ℕ}
    (h1 : o1 = ![0, 128 * n.val]) (h2 : o2 = ![j.val, 0, 0]) (h3 : o3 = ![j.val])
    (b1 : ∀ a, o1 a + S1x128.size a ≤ S1x49152.size a) (b2 : ∀ a, o2 a + S1x1x128.size a ≤ S2x1x128.size a)
    (b3 : ∀ a, o3 a + S1.size a ≤ S2.size a) {hs hd hm} {k : PUnit → Prog (TpuEff nD τ sig (Elt F) Λ₀ (thr d L).2) α} {Q : α → sProp 𝕄} :
    iprop(iS d L j ∗ iW d L fi n ∗ sem0 d L (iSem j))
      ⊢ iprop((inFl d L fi j n -∗ wpT d L (k ⟨⟩) Q) -∗ wpT d L (.op (.enqueueDma
          (iV.slice (Rect.unit (s := S1x49152) o1 S1x128.size b1) (fun _ => rfl))
          (.here ((sV.slice (Rect.unit (s := S2x1x128) o2 S1x1x128.size b2) (fun _ => rfl)).squeeze S1x128 squeezes_S1x1x128_S1x128))
          (.dma ((cc0_scoped1.slice (Rect.unit (s := S2) o3 S1.size b3)).squeeze S_ squeezes_S1_S_).sem) hs hd hm) k) Q) := by
  subst h1 h2 h3
  iintro ⟨Hs, Hw, Hv⟩ Hk
  unfold iS; icases Hs with ⟨%f, Hs⟩
  iapply (Transfers.wp_dmaLocal countersEmb 𝒱₀ (thr d L) none (src := iWin n) (dst := iSlot j) (sm := .dma (iSem j).sem) (via := .same)
    (default : HIx 1) nI (amount_i _ _) nI_pos (Finset.Subset.refl _)) $$ [Hs Hw Hv]
  · isplitl [Hw]; · unfold iW; iexact Hw
    isplitl [Hs]; · iexact Hs
    unfold sem0; iexact Hv
  iintro Hf
  iapply Hk
  unfold inFl
  iapply (Transfers.Flight_mono (EC := countersEmb) (c := thr d L) ?_) $$ Hf
  unfold iSF iW
  iintro ⟨Hd, Hs⟩
  isplitr [Hs]
  · iexists _; isplitr
    swap; · iexact Hd
    ipureintro
    exact View.read_write_univ _ _
  · iexact Hs

theorem wp_awaitIn (j : Fin 2) (n : Fin 384) {O : CellTallies nD τ sig (HIx 1)} {W : Waits sig (HIx 1)}
    {o1 : Fin 2 → ℕ} {o2 : Fin 3 → ℕ} {o3 : Fin 1 → ℕ}
    (h1 : o1 = ![0, 128 * n.val]) (h2 : o2 = ![j.val, 0, 0]) (h3 : o3 = ![j.val])
    (b1 : ∀ a, o1 a + S1x128.size a ≤ S1x49152.size a) (b2 : ∀ a, o2 a + S1x1x128.size a ≤ S2x1x128.size a)
    (b3 : ∀ a, o3 a + S1.size a ≤ S2.size a) {hs hd} {k : PUnit → Prog (TpuEff nD τ sig (Elt F) Λ₀ (thr d L).2) α} {Q : α → sProp 𝕄} :
    iprop(inFl d L fi j n ∗ owes (thr d L) O W ∗ Transfers.MayWaits (thr d L) (default : HIx 1) O)
      ⊢ iprop((iprop(iSF d L fi j n ∗ iW d L fi n ∗ sem0 d L (iSem j) ∗ owes (thr d L) O (insert (.dma (iSem j).sem, default) W)) -∗ wpT d L (k ⟨⟩) Q)
        -∗ wpT d L (.op (.waitDma2
          ((cc0_scoped1.slice (Rect.unit (s := S2) o3 S1.size b3)).squeeze S_ squeezes_S1_S_).sem
          (iV.slice (Rect.unit (s := S1x49152) o1 S1x128.size b1) (fun _ => rfl))
          ((sV.slice (Rect.unit (s := S2x1x128) o2 S1x1x128.size b2) (fun _ => rfl)).squeeze S1x128 squeezes_S1x1x128_S1x128) hs hd) k) Q) := by
  subst h1 h2 h3
  iintro ⟨Hf, HO, Hmw⟩ Hk
  unfold inFl
  iapply (Transfers.wp_waitLocalO countersEmb 𝒱₀ (thr d L) none (sem := (iSem j).sem) (srcw := iWin n) (dstw := iSlot j) (default : HIx 1) (credit_i j)) $$ [Hf HO Hmw]
  · isplitl [Hf]; · iexact Hf
    isplitl [HO]; · iexact HO
    iapply (Transfers.MayWaits.elim (SemLoc.dma (iSem j).sem)) $$ Hmw
  iintro ⟨⟨H1, H2⟩, Hv, HO⟩
  iapply Hk
  isplitl [H1]; · iexact H1
  isplitl [H2]; · iexact H2
  isplitl [Hv]; · unfold sem0; iexact Hv
  iexact HO

theorem wp_gatherStart (hfi : InRange fi) (q : PosShare TreeShare) (j : Fin 2) (n : Fin 384) {o1 o2 : Fin 3 → ℕ}
    (h1 : o1 = ![j.val, 0, 0]) (h2 : o2 = ![j.val, 0, 0])
    (b1 : ∀ a, o1 a + S1x128x128.size a ≤ S2x128x128.size a) (b2 : ∀ a, o2 a + S1x1x128.size a ≤ S2x1x128.size a)
    {hp hn hs he hsp hr} {k : PUnit → Prog (TpuEff nD τ sig (Elt F) Λ₀ (thr d L).2) α} {Q : α → sProp 𝕄} :
    iprop(iSF d L fi j n ∗ oS d L j ∗ xSh d L fx q ∗ sem0 d L cc0_scoped4)
      ⊢ iprop((gFl d L fx fi q j n -∗ wpT d L (k ⟨⟩) Q) -∗ wpT d L (SparseCore.enqueueIndirectGather hp xAll
          ((rV.slice (Rect.unit (s := S2x128x128) o1 S1x128x128.size b1) (fun _ => rfl)).squeeze S128x128 squeezes_S1x128x128_S128x128)
          gathers_S196608x128_S128x128
          ((((sV.slice (Rect.unit (s := S2x1x128) o2 S1x1x128.size b2) (fun _ => rfl)).squeeze S1x128 squeezes_S1x1x128_S1x128).slice
            (Rect.unit (s := S1x128) ![0, 0] S1x128.size inb_S1x128_S1x128_0_0) (fun _ => rfl)).squeeze S128 squeezes_S1x128_S128)
          hn cc0_scoped4.sem hs he hsp hr >>= k) Q) := by
  subst h1 h2
  iintro ⟨Hs, Hd, Hx, Hv⟩ Hk
  unfold iSF; icases Hs with ⟨%f, %hf, Hs⟩
  unfold oS; icases Hd with ⟨%fd, Hd⟩
  have hin : ∀ x, BitVec.toNat ((iList j).view.read (Elt F) f x) < S196608x128.size gathers_S196608x128_S128x128.axis := by
    intro x
    have e := (read_iList j f x).trans ((congrFun hf _).trans (read_iWin n fi _))
    exact lt_of_eq_of_lt (congrArg BitVec.toNat e) (hfi _)
  have hN : ∀ h : S196608x128.Gathers 0 S128x128, ∑ i, ((oSlot j).slice (S128x128.rowRect h.axis' i) (S128x128.stride_rowRect h.axis' i)).view.dmaCredit = nG := fun h => sum_credit j h
  iapply (SparseCore.wp_indirectGatherLocal countersEmb 𝒱₀ (thr d L) none (src := xAll) (dst := oSlot j) (offs := iList j) (sem := cc0_scoped4.sem)
    (hg := gathers_S196608x128_S128x128) (default : HIx 1) nG (hN _) (by decide) hin) $$ [Hs Hd Hx Hv]
  · isplitl [Hx]; · unfold xSh; iexact Hx
    isplitl [Hd]; · iexact Hd
    isplitl [Hs]; · rw [set_iList]; iexact Hs
    unfold sem0; iexact Hv
  iintro Hf
  iapply Hk
  unfold gFl
  iapply (Transfers.Flight_mono (EC := countersEmb) (c := thr d L) ?_) $$ Hf
  unfold oSF xSh iS
  iintro ⟨Hd, Hx, Hs⟩
  isplitl [Hd]
  · iexists _; isplitr
    swap; · iexact Hd
    ipureintro
    exact (View.read_write_univ _ _).trans (payload_eq j n fx fi f hf _ hin)
  isplitl [Hx]; · iexact Hx
  iexists f; rw [set_iList]; iexact Hs

theorem wp_gatherWait (q : PosShare TreeShare) (j : Fin 2) (n : Fin 384) {O : CellTallies nD τ sig (HIx 1)} {W : Waits sig (HIx 1)}
    {o1 : Fin 3 → ℕ} (h1 : o1 = ![j.val, 0, 0])
    (b1 : ∀ a, o1 a + S1x128x128.size a ≤ S2x128x128.size a)
    {hs hd} {k : PUnit → Prog (TpuEff nD τ sig (Elt F) Λ₀ (thr d L).2) α} {Q : α → sProp 𝕄} :
    iprop(gFl d L fx fi q j n ∗ owes (thr d L) O W ∗ Transfers.MayWaits (thr d L) (default : HIx 1) O)
      ⊢ iprop((iprop(oSF d L fx fi j n ∗ xSh d L fx q ∗ iS d L j ∗ sem0 d L cc0_scoped4 ∗ owes (thr d L) O (insert (.dma cc0_scoped4.sem, default) W)) -∗ wpT d L (k ⟨⟩) Q)
        -∗ wpT d L (.op (.waitDma2 cc0_scoped4.sem xAll
          ((rV.slice (Rect.unit (s := S2x128x128) o1 S1x128x128.size b1) (fun _ => rfl)).squeeze S128x128 squeezes_S1x128x128_S128x128) hs hd) k) Q) := by
  subst h1
  iintro ⟨Hf, HO, Hmw⟩ Hk
  unfold gFl
  iapply (Transfers.wp_waitLocalO countersEmb 𝒱₀ (thr d L) none (sem := cc0_scoped4.sem) (srcw := xAll) (dstw := oSlot j) (default : HIx 1) (credit_g j)) $$ [Hf HO Hmw]
  · isplitl [Hf]; · iexact Hf
    isplitl [HO]; · iexact HO
    iapply (Transfers.MayWaits.elim (SemLoc.dma cc0_scoped4.sem)) $$ Hmw
  iintro ⟨⟨H1, H2, H3⟩, Hv, HO⟩
  iapply Hk
  isplitl [H1]; · iexact H1
  isplitl [H2]; · iexact H2
  isplitl [H3]; · iexact H3
  isplitl [Hv]; · unfold sem0; iexact Hv
  iexact HO

theorem oW_congr (n : Fin 384) {f g : Buf (Elt F) (oLoc d)} (h : (oWin n).view.read (Elt F) f = (oWin n).view.read (Elt F) g) :
    (oW d L n f : sProp 𝕄) = oW d L n g := by
  unfold oW
  refine pointsTo_congr fun i hi => ?_
  obtain ⟨y, -, rfl⟩ := Finset.mem_map.mp hi
  have := congrFun h y
  exact ((View.read_apply _ _).trans (cast_eq _ _)).symm.trans (this.trans ((View.read_apply _ _).trans (cast_eq _ _)))

theorem wp_copyOut (j : Fin 2) (n : Fin 384) {f₀ : Buf (Elt F) (oLoc d)} {o1 : Fin 2 → ℕ} {o2 : Fin 3 → ℕ} {o3 : Fin 1 → ℕ}
    (h1 : o1 = ![128 * n.val, 0]) (h2 : o2 = ![j.val, 0, 0]) (h3 : o3 = ![j.val])
    (b1 : ∀ a, o1 a + S128x128.size a ≤ S49152x128.size a) (b2 : ∀ a, o2 a + S1x128x128.size a ≤ S2x128x128.size a)
    (b3 : ∀ a, o3 a + S1.size a ≤ S2.size a) {hs hd hm} {k : PUnit → Prog (TpuEff nD τ sig (Elt F) Λ₀ (thr d L).2) α} {Q : α → sProp 𝕄} :
    iprop(oSF d L fx fi j n ∗ oW d L n f₀ ∗ sem0 d L (oSem j))
      ⊢ iprop((outFl d L fx fi j n -∗ wpT d L (k ⟨⟩) Q) -∗ wpT d L (.op (.enqueueDma
          ((rV.slice (Rect.unit (s := S2x128x128) o2 S1x128x128.size b2) (fun _ => rfl)).squeeze S128x128 squeezes_S1x128x128_S128x128)
          (.here (oV.slice (Rect.unit (s := S49152x128) o1 S128x128.size b1) (fun _ => rfl)))
          (.dma ((cc0_scoped3.slice (Rect.unit (s := S2) o3 S1.size b3)).squeeze S_ squeezes_S1_S_).sem) hs hd hm) k) Q) := by
  subst h1 h2 h3
  iintro ⟨Hs, Hw, Hv⟩ Hk
  unfold oSF; icases Hs with ⟨%f, %hf, Hs⟩
  iapply (Transfers.wp_dmaLocal countersEmb 𝒱₀ (thr d L) none (src := oSlot j) (dst := oWin n) (sm := .dma (oSem j).sem) (via := .same)
    (default : HIx 1) nO (amount_o _ _) nO_pos (Finset.Subset.refl _)) $$ [Hs Hw Hv]
  · isplitl [Hs]; · iexact Hs
    isplitl [Hw]; · unfold oW; iexact Hw
    unfold sem0; iexact Hv
  iintro Hf
  iapply Hk
  unfold outFl
  iapply (Transfers.Flight_mono (EC := countersEmb) (c := thr d L) ?_) $$ Hf
  iintro ⟨Hd, Hs⟩
  isplitl [Hd]
  · rw [← oW_congr (F := F) d L n ((View.read_write_univ _ _).trans hf)]
    unfold oW; iexact Hd
  · unfold oS; iexists f; iexact Hs

theorem wp_awaitOut (j : Fin 2) (n : Fin 384) {O : CellTallies nD τ sig (HIx 1)} {W : Waits sig (HIx 1)}
    {o1 : Fin 2 → ℕ} {o2 : Fin 3 → ℕ} {o3 : Fin 1 → ℕ}
    (h1 : o1 = ![128 * n.val, 0]) (h2 : o2 = ![j.val, 0, 0]) (h3 : o3 = ![j.val])
    (b1 : ∀ a, o1 a + S128x128.size a ≤ S49152x128.size a) (b2 : ∀ a, o2 a + S1x128x128.size a ≤ S2x128x128.size a)
    (b3 : ∀ a, o3 a + S1.size a ≤ S2.size a) {hs hd} {k : PUnit → Prog (TpuEff nD τ sig (Elt F) Λ₀ (thr d L).2) α} {Q : α → sProp 𝕄} :
    iprop(outFl d L fx fi j n ∗ owes (thr d L) O W ∗ Transfers.MayWaits (thr d L) (default : HIx 1) O)
      ⊢ iprop((iprop(oW d L n (gRows fx fi) ∗ oS d L j ∗ sem0 d L (oSem j) ∗ owes (thr d L) O (insert (.dma (oSem j).sem, default) W)) -∗ wpT d L (k ⟨⟩) Q)
        -∗ wpT d L (.op (.waitDma2
          ((cc0_scoped3.slice (Rect.unit (s := S2) o3 S1.size b3)).squeeze S_ squeezes_S1_S_).sem
          ((rV.slice (Rect.unit (s := S2x128x128) o2 S1x128x128.size b2) (fun _ => rfl)).squeeze S128x128 squeezes_S1x128x128_S128x128)
          (oV.slice (Rect.unit (s := S49152x128) o1 S128x128.size b1) (fun _ => rfl)) hs hd) k) Q) := by
  subst h1 h2 h3
  iintro ⟨Hf, HO, Hmw⟩ Hk
  unfold outFl
  iapply (Transfers.wp_waitLocalO countersEmb 𝒱₀ (thr d L) none (sem := (oSem j).sem) (srcw := oSlot j) (dstw := oWin n) (default : HIx 1) (credit_o n)) $$ [Hf HO Hmw]
  · isplitl [Hf]; · iexact Hf
    isplitl [HO]; · iexact HO
    iapply (Transfers.MayWaits.elim (SemLoc.dma (oSem j).sem)) $$ Hmw
  iintro ⟨⟨H1, H2⟩, Hv, HO⟩
  iapply Hk
  isplitl [H1]; · iexact H1
  isplitl [H2]; · iexact H2
  isplitl [Hv]; · unfold sem0; iexact Hv
  iexact HO

end Steps

end Cert.Proof.Gather

end
-- ==== Proof.Trip.lean ====
/-
  One trip of the tile's loop. Before trip `k` the copy in of window `k` is in flight to slot `k mod 2`, the copy out of
  window `k - 1` from the other slot, and the rest of the windows and slots are held; the trip moves that state on by one.
-/
module

public import proofs.«01_k».proof.Proof.Rules

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MG F

/-! ## One piece out of a family and back -/

theorem bigSep_out {ι : Type} [Fintype ι] [DecidableEq ι] (Φ : ι → sProp 𝕄) (a : ι) :
    bigSep Finset.univ Φ = iprop(Φ a ∗ bigSep (Finset.univ.erase a) Φ) := SparseCore.bigSep_erase' (Finset.mem_univ a)
theorem bigSep_out' {ι : Type} [Fintype ι] [DecidableEq ι] (Φ : ι → sProp 𝕄) {a b : ι} (h : a ≠ b) :
    bigSep (Finset.univ.erase a) Φ = iprop(Φ b ∗ bigSep ((Finset.univ.erase a).erase b) Φ) :=
  SparseCore.bigSep_erase' (Finset.mem_erase.mpr ⟨h.symm, Finset.mem_univ b⟩)
theorem bigSep_in' {ι : Type} [Fintype ι] [DecidableEq ι] (Φ : ι → sProp 𝕄) {a b : ι} (h : a ≠ b) :
    bigSep (Finset.univ.erase b) Φ = iprop(Φ a ∗ bigSep ((Finset.univ.erase a).erase b) Φ) := by
  rw [bigSep_out' Φ h.symm, Finset.erase_right_comm]

theorem sl_succ_succ (k : ℕ) : sl (k + 1 + 1) = sl k := Fin.ext (by show (k + 1 + 1) % 2 = k % 2; omega)

section State

variable (d : Dev nD) (L : grid0.Coords) (fx : Buf (Elt F) (xLoc d)) (fi : Buf (Elt F) (iLoc d)) (fo : Buf (Elt F) (oLoc d))

abbrev iPc (w : Fin 12) : sProp 𝕄 := iW d L fi (wnF L w)
/-- Window `w` of the result before trip `k`. -/
def oPc (k : ℕ) (w : Fin 12) : sProp 𝕄 := oW d L (wnF L w) (if w.val < k then gRows fx fi else fo)

/-- Slot and cell `j` of the pipeline in, of the pipeline out: at rest. -/
abbrev iFree (j : Fin 2) : sProp 𝕄 := iprop(iS d L j ∗ sem0 d L (iSem j))
abbrev oFree (j : Fin 2) : sProp 𝕄 := iprop(oS d L j ∗ sem0 d L (oSem j))

/-- The pipeline in before trip `k`; -/
def inPart (k : ℕ) : sProp 𝕄 :=
  if h : k < 12 then iprop(bigSep (Finset.univ.erase ⟨k, h⟩) (iPc d L fi) ∗ inFl d L fi (sl k) (wnF L ⟨k, h⟩) ∗ iFree d L (sl (k + 1)))
  else iprop(bigSep Finset.univ (iPc d L fi) ∗ iFree d L (sl k) ∗ iFree d L (sl (k + 1)))
/-- and once the next copy in, if any, has started: without the one in flight for this trip. -/
def inMid (k : ℕ) (h : k < 12) : sProp 𝕄 :=
  if h' : k + 1 < 12 then
    iprop(bigSep ((Finset.univ.erase ⟨k, h⟩).erase ⟨k + 1, h'⟩) (iPc d L fi) ∗ inFl d L fi (sl (k + 1)) (wnF L ⟨k + 1, h'⟩))
  else iprop(bigSep (Finset.univ.erase ⟨k, h⟩) (iPc d L fi) ∗ iFree d L (sl (k + 1)))

/-- The pipeline out before trip `k`; -/
def outPart (k : ℕ) : sProp 𝕄 :=
  if h : 0 < k ∧ k ≤ 12 then
    iprop(bigSep (Finset.univ.erase ⟨k - 1, by omega⟩) (oPc d L fx fi fo k) ∗ outFl d L fx fi (sl (k + 1)) (wnF L ⟨k - 1, by omega⟩) ∗ oFree d L (sl k))
  else iprop(bigSep Finset.univ (oPc d L fx fi fo k) ∗ oFree d L (sl (k + 1)) ∗ oFree d L (sl k))
/-- what of it trip `k` does not touch before its own copy out; -/
def outMid (k : ℕ) (h : k < 12) : sProp 𝕄 :=
  if h' : 0 < k then
    iprop(bigSep ((Finset.univ.erase ⟨k - 1, by omega⟩).erase ⟨k, h⟩) (oPc d L fx fi fo k) ∗ outFl d L fx fi (sl (k + 1)) (wnF L ⟨k - 1, by omega⟩))
  else iprop(bigSep (Finset.univ.erase ⟨k, h⟩) (oPc d L fx fi fo k) ∗ oFree d L (sl (k + 1)))
/-- and that with the copy before it landed. -/
def outEnd (k : ℕ) (h : k < 12) : sProp 𝕄 := iprop(bigSep (Finset.univ.erase ⟨k, h⟩) (oPc d L fx fi fo (k + 1)) ∗ oFree d L (sl (k + 1)))

theorem inMid_done (k : ℕ) (h : k < 12) :
    iprop(inMid d L fi k h ∗ iPc d L fi ⟨k, h⟩ ∗ iFree d L (sl k)) ⊢ (inPart d L fi (k + 1) : sProp 𝕄) := by
  unfold inMid inPart
  by_cases h' : k + 1 < 12
  · rw [dif_pos h', dif_pos h', sl_succ_succ, bigSep_in' (F := F) (iPc d L fi) (a := (⟨k, h⟩ : Fin 12)) (b := ⟨k + 1, h'⟩) (by simp)]
    iintro ⟨⟨Hb, Hf⟩, Hw, Hs⟩
    isplitl [Hw Hb]
    · isplitl [Hw] <;> iassumption
    isplitl [Hf] <;> iassumption
  · rw [dif_neg h', dif_neg h', sl_succ_succ, bigSep_out (F := F) (iPc d L fi) ⟨k, h⟩]
    iintro ⟨⟨Hb, Hf⟩, Hw, Hs⟩
    isplitl [Hw Hb]
    · isplitl [Hw] <;> iassumption
    isplitl [Hf] <;> iassumption

theorem oPc_before (k : ℕ) (h : k < 12) : (oPc d L fx fi fo k ⟨k, h⟩ : sProp 𝕄) = oW d L (wnF L ⟨k, h⟩) fo := by
  unfold oPc; rw [if_neg (by simp)]
theorem oPc_after (k m : ℕ) (h : k < 12) (hm : k < m) : (oPc d L fx fi fo m ⟨k, h⟩ : sProp 𝕄) = oW d L (wnF L ⟨k, h⟩) (gRows fx fi) := by
  unfold oPc; rw [if_pos hm]
theorem oPc_succ (k : ℕ) (h : k < 12) : bigSep (Finset.univ.erase ⟨k, h⟩) (oPc d L fx fi fo k) = (bigSep (Finset.univ.erase ⟨k, h⟩) (oPc d L fx fi fo (k + 1)) : sProp 𝕄) := by
  refine bigSep_congr fun w hw => ?_
  have : w.val ≠ k := fun e => (Finset.mem_erase.mp hw).1 (Fin.ext e)
  unfold oPc
  congr 1
  by_cases hk : w.val < k
  · rw [if_pos hk, if_pos (by omega)]
  · rw [if_neg hk, if_neg (by omega)]

theorem outPart_open (k : ℕ) (h : k < 12) :
    (outPart d L fx fi fo k : sProp 𝕄) ⊢ iprop(outMid d L fx fi fo k h ∗ oW d L (wnF L ⟨k, h⟩) fo ∗ oFree d L (sl k)) := by
  unfold outPart outMid
  by_cases h' : 0 < k
  · rw [dif_pos ⟨h', h.le⟩, dif_pos h', bigSep_out' (F := F) (oPc d L fx fi fo k) (a := (⟨k - 1, by omega⟩ : Fin 12)) (b := ⟨k, h⟩) (by simp; omega), oPc_before]
    iintro ⟨⟨Hw, Hb⟩, Hf, Hs⟩
    isplitl [Hb Hf]
    · isplitl [Hb] <;> iassumption
    isplitl [Hw] <;> iassumption
  · rw [dif_neg (by omega), dif_neg h', bigSep_out (F := F) (oPc d L fx fi fo k) ⟨k, h⟩, oPc_before]
    iintro ⟨⟨Hw, Hb⟩, Hf, Hs⟩
    isplitl [Hb Hf]
    · isplitl [Hb] <;> iassumption
    isplitl [Hw] <;> iassumption

theorem outEnd_done (k : ℕ) (h : k < 12) :
    iprop(outEnd d L fx fi fo k h ∗ outFl d L fx fi (sl k) (wnF L ⟨k, h⟩)) ⊢ (outPart d L fx fi fo (k + 1) : sProp 𝕄) := by
  unfold outPart outEnd
  rw [dif_pos ⟨Nat.succ_pos k, h⟩, sl_succ_succ]
  iintro ⟨⟨Hb, Hs⟩, Hf⟩
  isplitl [Hb]; · iexact Hb
  isplitl [Hf]; · iexact Hf
  iexact Hs

end State

section Steps

variable [FloatOps F] (d : Dev nD) (L : grid0.Coords) (fx : Buf (Elt F) (xLoc d)) (fi : Buf (Elt F) (iLoc d)) (fo : Buf (Elt F) (oLoc d))
variable (q : PosShare TreeShare) (O : CellTallies nD τ sig (HIx 1)) (W : Waits sig (HIx 1))

/-- What the tile owes, with the waits it has made so far. -/
def owed : sProp 𝕄 := iprop(Transfers.MayWaits (thr d L) (default : HIx 1) O ∗ ∃ W', ⌜∀ p ∈ W', p ∈ W ∨ p.2 = none⌝ ∗ owes (thr d L) O W')

/-- The state before trip `k`. -/
def inv (k : ℕ) (acc : BitVec 32 × BitVec 32 × BitVec 32 × BitVec 32 × BitVec 32) : sProp 𝕄 :=
  iprop(⌜acc = carried k⌝ ∗ owed d L O W ∗ (xSh d L fx q ∗ sem0 d L cc0_scoped4) ∗ inPart d L fi k ∗ outPart d L fx fi fo k)

abbrev tripProg (k : TripF) (acc : BitVec 32 × BitVec 32 × BitVec 32 × BitVec 32 × BitVec 32) :=
  k0_t1_body (F := F) L xV (Memref.isWhole_whole _) iV (Memref.isWhole_whole _) oV (Memref.isWhole_whole _) sV (Memref.isWhole_whole _)
    cc0_scoped1 rV (Memref.isWhole_whole _) cc0_scoped3 cc0_scoped4 (base L) k acc

theorem wp_condIn {α : Type} (k : ℕ) (hk : k < 12) {c : Prop} [Decidable c] (hc : c ↔ k < 11)
    {A : c → Prog (TpuEff nD τ sig (Elt F) Λ₀ (thr d L).2) α} {R : Prog (TpuEff nD τ sig (Elt F) Λ₀ (thr d L).2) α} {Q : α → sProp 𝕄}
    (hA : ∀ h : c, ∃ (o1 : Fin 2 → ℕ) (o2 : Fin 3 → ℕ) (o3 : Fin 1 → ℕ)
      (b1 : ∀ a, o1 a + S1x128.size a ≤ S1x49152.size a) (b2 : ∀ a, o2 a + S1x1x128.size a ≤ S2x1x128.size a)
      (b3 : ∀ a, o3 a + S1.size a ≤ S2.size a) (hs : _) (hd : _) (hm : _),
      o1 = ![0, 128 * wn L (k + 1)] ∧ o2 = ![(sl (k + 1)).val, 0, 0] ∧ o3 = ![(sl (k + 1)).val] ∧ A h = .op (.enqueueDma
          (iV.slice (Rect.unit (s := S1x49152) o1 S1x128.size b1) (fun _ => rfl))
          (.here ((sV.slice (Rect.unit (s := S2x1x128) o2 S1x1x128.size b2) (fun _ => rfl)).squeeze S1x128 squeezes_S1x1x128_S1x128))
          (.dma ((cc0_scoped1.slice (Rect.unit (s := S2) o3 S1.size b3)).squeeze S_ squeezes_S1_S_).sem) hs hd hm) (fun _ => R)) :
    inPart d L fi k ⊢ iprop((iprop(inMid d L fi k hk ∗ inFl d L fi (sl k) (wnF L ⟨k, hk⟩)) -∗ wpT d L R Q)
      -∗ wpT d L (if h : c then A h else R) Q) := by
  unfold inPart
  rw [dif_pos hk]
  by_cases h : c
  · have h' : k + 1 < 12 := by have := hc.mp h; omega
    obtain ⟨o1, o2, o3, b1, b2, b3, hs, hd, hm, h1, h2, h3, hA⟩ := hA h
    rw [dif_pos h, hA, bigSep_out' (F := F) (iPc d L fi) (a := (⟨k, hk⟩ : Fin 12)) (b := ⟨k + 1, h'⟩) (by simp)]
    unfold inMid; rw [dif_pos h']
    iintro ⟨⟨Hw, Hb⟩, Hf, Hs, Hv⟩ Hk
    iapply (wp_copyIn d L fi (sl (k + 1)) (wnF L ⟨k + 1, h'⟩) h1 h2 h3 b1 b2 b3) $$ [Hs Hw Hv]
    · isplitl [Hs]; · iexact Hs
      isplitl [Hw] <;> iassumption
    iintro Hf'
    iapply Hk
    isplitr [Hf]; swap; · iexact Hf
    isplitl [Hb] <;> iassumption
  · have h' : ¬ k + 1 < 12 := fun h' => h (hc.mpr (by omega))
    rw [dif_neg h]
    unfold inMid; rw [dif_neg h']
    iintro ⟨Hb, Hf, Hs, Hv⟩ Hk
    iapply Hk
    isplitr [Hf]; swap; · iexact Hf
    isplitl [Hb]; · iexact Hb
    isplitl [Hs] <;> iassumption

theorem wp_condOut {α : Type} (k : ℕ) (hk : k < 12) {c : Prop} [Decidable c] (hc : c ↔ 0 < k)
    {A : c → Prog (TpuEff nD τ sig (Elt F) Λ₀ (thr d L).2) α} {R : Prog (TpuEff nD τ sig (Elt F) Λ₀ (thr d L).2) α} {Q : α → sProp 𝕄}
    (hA : ∀ h : c, ∃ (o1 : Fin 2 → ℕ) (o2 : Fin 3 → ℕ) (o3 : Fin 1 → ℕ)
      (b1 : ∀ a, o1 a + S128x128.size a ≤ S49152x128.size a) (b2 : ∀ a, o2 a + S1x128x128.size a ≤ S2x128x128.size a)
      (b3 : ∀ a, o3 a + S1.size a ≤ S2.size a) (hs : _) (hd : _),
      o1 = ![128 * wn L (k - 1), 0] ∧ o2 = ![(sl (k + 1)).val, 0, 0] ∧ o3 = ![(sl (k + 1)).val] ∧ A h = .op (.waitDma2
          ((cc0_scoped3.slice (Rect.unit (s := S2) o3 S1.size b3)).squeeze S_ squeezes_S1_S_).sem
          ((rV.slice (Rect.unit (s := S2x128x128) o2 S1x128x128.size b2) (fun _ => rfl)).squeeze S128x128 squeezes_S1x128x128_S128x128)
          (oV.slice (Rect.unit (s := S49152x128) o1 S128x128.size b1) (fun _ => rfl)) hs hd) (fun _ => R)) :
    iprop(outMid d L fx fi fo k hk ∗ owed d L O W)
      ⊢ iprop((iprop(outEnd d L fx fi fo k hk ∗ owed d L O W) -∗ wpT d L R Q) -∗ wpT d L (if h : c then A h else R) Q) := by
  unfold outMid outEnd
  rw [← oPc_succ]
  by_cases h : c
  · have h' : 0 < k := hc.mp h
    obtain ⟨o1, o2, o3, b1, b2, b3, hs, hd, h1, h2, h3, hA⟩ := hA h
    rw [dif_pos h, hA, dif_pos h', bigSep_in' (F := F) (oPc d L fx fi fo k) (a := (⟨k - 1, by omega⟩ : Fin 12)) (b := ⟨k, hk⟩) (by simp; omega), oPc_after _ _ _ _ _ _ _ _ (by omega)]
    unfold owed
    iintro ⟨⟨Hb, Hf⟩, #Hmw, %W', %hW', HO⟩ Hk
    iapply (wp_awaitOut d L fx fi (sl (k + 1)) (wnF L ⟨k - 1, by omega⟩) h1 h2 h3 b1 b2 b3) $$ [Hf HO]
    · isplitl [Hf]; · iexact Hf
      isplitl [HO]; · iexact HO
      iexact Hmw
    iintro ⟨Hw, Hs, Hv, HO⟩
    iapply Hk
    isplitl [Hb Hw Hs Hv]
    · isplitl [Hb Hw]
      · isplitl [Hw] <;> iassumption
      isplitl [Hs] <;> iassumption
    isplitr; · iexact Hmw
    iexists _; isplitr
    swap; · iexact HO
    ipureintro; intro p hp
    rcases Finset.mem_insert.mp hp with hp | hp; · exact .inr (hp ▸ rfl)
    exact hW' p hp
  · have h' : ¬ 0 < k := fun h' => h (hc.mpr h')
    rw [dif_neg h, dif_neg h']
    iintro ⟨⟨Hb, Hs⟩, HO⟩ Hk
    iapply Hk
    isplitr [HO]; swap; · iexact HO
    isplitl [Hb] <;> iassumption

theorem bind_wp {α β : Type} {Q : α → sProp 𝕄} {prog : Prog (TpuEff nD τ sig (Elt F) Λ₀ (thr d L).2) α}
    {p : Prog (TpuEff nD τ sig (Elt F) Λ₀ (thr d L).2) β} {k : β → Prog (TpuEff nD τ sig (Elt F) Λ₀ (thr d L).2) α} (e : prog = p >>= k) :
    wpT d L p (fun a => wpT d L (k a) Q) ⊢ wpT d L prog Q := by
  rw [e]; unfold wpT; rw [wp_bind]

theorem same_wp {α : Type} {Q : α → sProp 𝕄} {prog p : Prog (TpuEff nD τ sig (Elt F) Λ₀ (thr d L).2) α} (e : prog = p) :
    wpT d L p Q ⊢ wpT d L prog Q := by rw [e]

theorem ite_wp {α : Type} {c : Prop} [Decidable c] {Q : α → sProp 𝕄} {p : Prog (TpuEff nD τ sig (Elt F) Λ₀ (thr d L).2) α} :
    wpT d L p Q ⊢ wpT d L (if c then p else p) Q := by rw [ite_self]

theorem dif_wp {α : Type} {c : Prop} [Decidable c] (h : c) {Q : α → sProp 𝕄} {A : c → Prog (TpuEff nD τ sig (Elt F) Λ₀ (thr d L).2) α}
    {B : ¬ c → Prog (TpuEff nD τ sig (Elt F) Λ₀ (thr d L).2) α} :
    wpT d L (A h) Q ⊢ wpT d L (dite c A B) Q := by rw [dif_pos h]

theorem part2_ok (hfi : InRange fi) (k : TripF) (hk : k.val < 12) (h3 h2 h1 x5 x64 x65 x66 x71 x76 x96) {Q : PUnit → sProp 𝕄} :
    iprop(inFl d L fi (sl k.val) (wnF L ⟨k.val, hk⟩) ∗ oS d L (sl k.val) ∗ (xSh d L fx q ∗ sem0 d L cc0_scoped4) ∗ owed d L O W)
      ⊢ iprop((iprop((iPc d L fi ⟨k.val, hk⟩ ∗ iFree d L (sl k.val)) ∗ oSF d L fx fi (sl k.val) (wnF L ⟨k.val, hk⟩) ∗ (xSh d L fx q ∗ sem0 d L cc0_scoped4) ∗ owed d L O W)
          -∗ Q ⟨⟩)
        -∗ wpT d L (k0_part2 (F := F) L xV (Memref.isWhole_whole _) iV (Memref.isWhole_whole _) oV (Memref.isWhole_whole _) sV (Memref.isWhole_whole _)
    cc0_scoped1 rV (Memref.isWhole_whole _) cc0_scoped3 cc0_scoped4 k (a6 k.val) (a7 k.val) (a7 k.val) (a9 k.val) (a10 k.val) h3 h2 h1 x5 x64 x65 x66 x71 x76 x96) Q) := by
  rw [k0_part2_eq_skeleton]
  unfold k0_part2_skel owed
  iintro ⟨Hf, Ho, ⟨Hx, Hg⟩, #Hmw, %W', %hW', HO⟩ Hk
  iapply (dif_wp d L (cond2_true L k))
  iapply (wp_awaitIn d L fi (sl k.val) (wnF L ⟨k.val, hk⟩) (off8_eq L k) (off7_eq k) (off9_eq k) _ _ _) $$ [Hf HO]
  · isplitl [Hf]; · iexact Hf
    isplitl [HO]; · iexact HO
    iexact Hmw
  iintro ⟨Hs, Hw, Hv, HO⟩
  iapply (ite_wp d L)
  iapply (wp_gatherStart d L fx fi hfi q (sl k.val) (wnF L ⟨k.val, hk⟩) (off10_eq k) (off11_eq k) _ _) $$ [Hs Ho Hx Hg]
  · isplitl [Hs]; · iexact Hs
    isplitl [Ho]; · iexact Ho
    isplitl [Hx] <;> iassumption
  iintro Hf
  iapply (wp_gatherWait d L fx fi q (sl k.val) (wnF L ⟨k.val, hk⟩) (off10_eq k) _) $$ [Hf HO]
  · isplitl [Hf]; · iexact Hf
    isplitl [HO]; · iexact HO
    iexact Hmw
  iintro ⟨Ho, Hx, Hs, Hg, HO⟩
  iapply (ite_wp d L)
  unfold wpT
  irw [wp_pure]
  imodintro
  iapply Hk
  isplitl [Hw Hs Hv]
  · isplitl [Hw]; · iexact Hw
    isplitl [Hs] <;> iassumption
  isplitl [Ho]; · iexact Ho
  isplitl [Hx Hg]
  · isplitl [Hx] <;> iassumption
  isplitr; · iexact Hmw
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

theorem bind_of {α β : Type} {P : sProp 𝕄} {Q : α → sProp 𝕄} {prog : Prog (TpuEff nD τ sig (Elt F) Λ₀ (thr d L).2) α}
    {p : Prog (TpuEff nD τ sig (Elt F) Λ₀ (thr d L).2) β} {k : β → Prog (TpuEff nD τ sig (Elt F) Λ₀ (thr d L).2) α} (e : prog = p >>= k)
    (h : ∀ K : β → sProp 𝕄, K = (fun a => wpT d L (k a) Q) → P ⊢ wpT d L p K) : P ⊢ wpT d L prog Q := by
  rw [e]; unfold wpT; rw [wp_bind]; exact h _ rfl

theorem inv_of (k : ℕ) (acc : BitVec 32 × BitVec 32 × BitVec 32 × BitVec 32 × BitVec 32) (h : acc = carried k) :
    iprop(owed d L O W ∗ (xSh d L fx q ∗ sem0 d L cc0_scoped4) ∗ inPart d L fi k ∗ outPart d L fx fi fo k)
      ⊢ (inv d L fx fi fo q O W k acc : sProp 𝕄) := by
  unfold inv
  iintro H
  isplitr
  · ipureintro; exact h
  iexact H

set_option maxHeartbeats 4000000 in
theorem trip (hfi : InRange fi) (k : TripF) (acc : BitVec 32 × BitVec 32 × BitVec 32 × BitVec 32 × BitVec 32) :
    (inv d L fx fi fo q O W k.val acc : sProp 𝕄) ⊢ wpT d L (tripProg L k acc) (inv d L fx fi fo q O W (k.val + 1)) := by
  have hk : k.val < 12 := lt_of_lt_of_eq k.isLt trips_eq
  by_cases hacc : acc = carried k.val
  case neg => unfold inv; iintro ⟨%h, -⟩; exact (hacc h).elim
  subst hacc
  refine bind_of d L (p := k0_part1 L xV (Memref.isWhole_whole _) iV (Memref.isWhole_whole _) oV (Memref.isWhole_whole _) sV (Memref.isWhole_whole _)
    cc0_scoped1 rV (Memref.isWhole_whole _) cc0_scoped3 cc0_scoped4 (base L) 0#32 1#32 k (a6 k.val) (a7 k.val) (a7 k.val) (a9 k.val) (a10 k.val)) rfl fun K1 hK1 => ?_
  rw [k0_part1_eq_skeleton]
  unfold k0_part1_skel
  refine BI.Entails.trans ?_ (wp_assume _ _ _ _ (chk3_true k))
  refine BI.Entails.trans ?_ (wp_assume _ _ _ _ (chk2_true k))
  refine BI.Entails.trans ?_ (wp_assume _ _ _ _ (chk1_true L k))
  change _ ⊢ wpT d L (dite (k0_cond1 L k (a10 k.val) = 1#1) _ _) _
  unfold inv
  iintro ⟨-, HO, ⟨Hx, Hg⟩, Hin, Hout⟩
  iapply (wp_condIn d L fi k.val hk (cond1_iff L k) ?_) $$ Hin
  · exact fun h => ⟨_, _, _, _, _, _, _, _, _, off5_eq L k ((cond1_iff L k).mp h), off4_eq k ((cond1_iff L k).mp h), off6_eq k ((cond1_iff L k).mp h), rfl⟩
  iintro ⟨Hmid, Hfl⟩
  unfold wpT
  irw [wp_pure]
  imodintro
  subst hK1
  iapply (bind_wp d L (p := k0_part2 (F := F) L xV (Memref.isWhole_whole _) iV (Memref.isWhole_whole _) oV (Memref.isWhole_whole _) sV (Memref.isWhole_whole _)
    cc0_scoped1 rV (Memref.isWhole_whole _) cc0_scoped3 cc0_scoped4 k (a6 k.val) (a7 k.val) (a7 k.val) (a9 k.val) (a10 k.val) _ _ _ _ _ _ _ _ _ _) rfl)
  ihave Hout' := (outPart_open d L fx fi fo k.val hk) $$ Hout
  icases Hout' with ⟨Hrest, Hw, Hos, Hov⟩
  iapply (part2_ok d L fx fi q O W hfi k hk) $$ [Hfl Hos Hx Hg HO]
  · isplitl [Hfl]; · iexact Hfl
    isplitl [Hos]; · iexact Hos
    isplitl [Hx Hg]; · isplitl [Hx] <;> iassumption
    iexact HO
  iintro ⟨Hin, Hos, Hx, HO⟩
  iapply (dif_wp d L (cond5_true L k))
  iapply (wp_copyOut d L fx fi (sl k.val) (wnF L ⟨k.val, hk⟩) (off13_eq L k) (off12_eq k) (off14_eq k) _ _ _) $$ [Hos Hw Hov]
  · isplitl [Hos]; · iexact Hos
    isplitl [Hw] <;> iassumption
  iintro Hf
  iapply (ite_wp d L)
  iapply (wp_condOut d L fx fi fo O W k.val hk (cond7_iff L k) ?_) $$ [Hrest HO]
  · exact fun h => ⟨_, _, _, _, _, _, _, _, off16_eq L k ((cond7_iff L k).mp h), off15_eq k ((cond7_iff L k).mp h), off17_eq k ((cond7_iff L k).mp h), rfl⟩
  · isplitl [Hrest] <;> iassumption
  iintro ⟨Hend, HO⟩
  unfold wpT
  irw [wp_pure]
  imodintro
  iapply (inv_of d L fx fi fo q O W (k.val + 1) _ (next_eq L k))
  isplitl [HO]; · iexact HO
  isplitl [Hx]; · iexact Hx
  isplitl [Hmid Hin]
  · iapply (inMid_done d L fi k.val hk)
    isplitl [Hmid]; · iexact Hmid
    iexact Hin
  · iapply (outEnd_done d L fx fi fo k.val hk)
    isplitl [Hend] <;> iassumption

end Steps

end Cert.Proof.Gather

end
-- ==== Proof.Tile.lean ====
/-
  The whole of a tile's kernel: the first copy in, the twelve trips by the state of the trip module, and the wait for the
  last copy out. `tile_core` states it over the tile's windows, slots and cells.
-/
module

public import proofs.«01_k».proof.Proof.Trip

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MG F

section Ends

variable (d : Dev nD) (L : grid0.Coords) (fx : Buf (Elt F) (xLoc d)) (fi : Buf (Elt F) (iLoc d)) (fo : Buf (Elt F) (oLoc d))

/-- The tile's windows of the result, at `f`. -/
def oAll (f : Buf (Elt F) (oLoc d)) : sProp 𝕄 := bigSep Finset.univ fun w : Fin 12 => oW d L (wnF L w) f
/-- The tile's windows of the row numbers. -/
def iAll : sProp 𝕄 := bigSep Finset.univ (iPc d L fi)

theorem in_open : iprop(iAll d L fi ∗ iFree d L 0 ∗ iFree d L 1)
    ⊢ (iprop((iS d L (sl 0) ∗ iW d L fi (wnF L ⟨0, by omega⟩) ∗ sem0 d L (iSem (sl 0)))
        ∗ bigSep (Finset.univ.erase ⟨0, by omega⟩) (iPc d L fi) ∗ iFree d L (sl (0 + 1))) : sProp 𝕄) := by
  unfold iAll
  rw [bigSep_out (iPc d L fi) ⟨0, by omega⟩]
  iintro ⟨⟨Hw, Hb⟩, ⟨Hs, Hv⟩, Hf⟩
  isplitl [Hw Hs Hv]
  · isplitl [Hs]; · iexact Hs
    isplitl [Hw] <;> iassumption
  isplitl [Hb]; · iexact Hb
  iexact Hf

theorem in_start : iprop(inFl d L fi (sl 0) (wnF L ⟨0, by omega⟩) ∗ bigSep (Finset.univ.erase ⟨0, by omega⟩) (iPc d L fi) ∗ iFree d L (sl (0 + 1)))
    ⊢ (inPart d L fi 0 : sProp 𝕄) := by
  unfold inPart
  rw [dif_pos (by omega)]
  iintro ⟨Hf, Hb, Hs⟩
  isplitl [Hb]; · iexact Hb
  isplitl [Hf]; · iexact Hf
  iexact Hs

theorem in_end : (inPart d L fi 12 : sProp 𝕄) ⊢ iprop(iAll d L fi ∗ iFree d L 0 ∗ iFree d L 1) := by
  unfold inPart iAll
  rw [dif_neg (by omega)]
  iintro ⟨Hb, Hf, Hs⟩
  isplitl [Hb]; · iexact Hb
  isplitl [Hf]; · iexact Hf
  iexact Hs

theorem out_start : iprop(oAll d L fo ∗ oFree d L 0 ∗ oFree d L 1) ⊢ (outPart d L fx fi fo 0 : sProp 𝕄) := by
  unfold outPart oAll
  rw [dif_neg (by omega), show bigSep Finset.univ (oPc d L fx fi fo 0) = bigSep Finset.univ (fun w : Fin 12 => (oW d L (wnF L w) fo : sProp 𝕄)) from
    bigSep_congr fun w _ => by unfold oPc; rw [if_neg (by omega)]]
  iintro ⟨Hb, Hf, Hs⟩
  isplitl [Hb]; · iexact Hb
  isplitl [Hs]; · iexact Hs
  iexact Hf

theorem out_end : (outPart d L fx fi fo 12 : sProp 𝕄)
    ⊢ iprop(outFl d L fx fi (sl 11) (wnF L ⟨11, by omega⟩) ∗ bigSep (Finset.univ.erase ⟨11, by omega⟩) (oPc d L fx fi fo 12) ∗ oFree d L 0) := by
  unfold outPart
  rw [dif_pos (by omega)]
  iintro ⟨Hb, Hf, Hs⟩
  isplitl [Hf]; · iexact Hf
  isplitl [Hb]; · iexact Hb
  iexact Hs

theorem out_done : iprop(oW d L (wnF L ⟨11, by omega⟩) (gRows fx fi) ∗ oFree d L (sl 11) ∗ bigSep (Finset.univ.erase ⟨11, by omega⟩) (oPc d L fx fi fo 12) ∗ oFree d L 0)
    ⊢ (iprop(oAll d L (gRows fx fi) ∗ oFree d L 0 ∗ oFree d L 1) : sProp 𝕄) := by
  unfold oAll
  rw [bigSep_out (fun w : Fin 12 => (oW d L (wnF L w) (gRows fx fi) : sProp 𝕄)) ⟨11, by omega⟩,
    show bigSep (Finset.univ.erase ⟨11, by omega⟩) (oPc d L fx fi fo 12)
      = bigSep (Finset.univ.erase ⟨11, by omega⟩) (fun w : Fin 12 => (oW d L (wnF L w) (gRows fx fi) : sProp 𝕄)) from
    bigSep_congr fun w _ => by unfold oPc; rw [if_pos w.isLt]]
  iintro ⟨Hw, Hf, Hb, Hs⟩
  isplitl [Hw Hb]
  · isplitl [Hw] <;> iassumption
  isplitl [Hs]; · iexact Hs
  iexact Hf

end Ends

section Core

variable [FloatOps F] (d : Dev nD) (L : grid0.Coords) (fx : Buf (Elt F) (xLoc d)) (fi : Buf (Elt F) (iLoc d)) (fo : Buf (Elt F) (oLoc d))
variable (q : PosShare TreeShare) (O : CellTallies nD τ sig (HIx 1)) (W : Waits sig (HIx 1))

theorem ret_wp {α : Type} {Q : α → sProp 𝕄} {prog : Prog (TpuEff nD τ sig (Elt F) Λ₀ (thr d L).2) α} {a : α} (e : prog = pure a) :
    Q a ⊢ wpT d L prog Q := by
  rw [e]; unfold wpT; rw [wp_pure]; iintro H; imodintro; iexact H

theorem loop_ok (hfi : InRange fi) {n : ℕ} (hn : k0_t1_loop.trips = n) {β : Type}
    {kk : BitVec 32 × BitVec 32 × BitVec 32 × BitVec 32 × BitVec 32 → Prog (TpuEff nD τ sig (Elt F) Λ₀ (thr d L).2) β} {Q : β → sProp 𝕄} :
    (inv d L fx fi fo q O W 0 (carried 0) : sProp 𝕄)
      ⊢ iprop((∀ acc, inv d L fx fi fo q O W n acc -∗ wpT d L (kk acc) Q)
        -∗ wpT d L (Scf.Loop.for k0_t1_loop k0_t1_ok (carried 0)
          (k0_t1_body (F := F) L xV (Memref.isWhole_whole _) iV (Memref.isWhole_whole _) oV (Memref.isWhole_whole _) sV (Memref.isWhole_whole _)
            cc0_scoped1 rV (Memref.isWhole_whole _) cc0_scoped3 cc0_scoped4 (base L)) >>= kk) Q) := by
  subst hn
  exact Scf.wp_for_bind frame (wpE (defs₀ (F := F)) 𝒱₀ (thr d L) none) Set.univ _ _ _ k0_t1_ok (carried 0) _
    (inv d L fx fi fo q O W) (fun k acc => trip d L fx fi fo q O W hfi k acc)

theorem part3_ok {Q : BitVec 32 → sProp 𝕄} :
    iprop(iS d L (sl 0) ∗ iW d L fi (wnF L ⟨0, by omega⟩) ∗ sem0 d L (iSem (sl 0)))
      ⊢ iprop((inFl d L fi (sl 0) (wnF L ⟨0, by omega⟩) -∗ Q (base L))
        -∗ wpT d L (k0_part3 (F := F) L xV (Memref.isWhole_whole _) iV (Memref.isWhole_whole _) oV (Memref.isWhole_whole _) sV (Memref.isWhole_whole _)
            cc0_scoped1 rV (Memref.isWhole_whole _) cc0_scoped3 cc0_scoped4) Q) := by
  rw [k0_part3_eq_skeleton]
  unfold k0_part3_skel
  iintro H Hk
  iapply (wp_copyIn d L fi (sl 0) (wnF L ⟨0, Nat.succ_pos _⟩) (off2_eq L) off1_eq off3_eq _ _ _) $$ H
  iintro Hf
  iapply (ret_wp d L (a := base L) rfl)
  iapply Hk
  iexact Hf

theorem part4_ok (hfi : InRange fi) {Q : (Σ' (v3 : BitVec 32) (v4 : BitVec 32) (_ : k0_chk5 L v4), k0_chk4 v3) → sProp 𝕄} :
    (inv d L fx fi fo q O W 0 (carried 0) : sProp 𝕄)
      ⊢ iprop((inv d L fx fi fo q O W 12 (carried 12) -∗ Q ⟨a9 12, a10 12, chk5_true L, chk4_true⟩)
        -∗ wpT d L (k0_part4 (F := F) L xV (Memref.isWhole_whole _) iV (Memref.isWhole_whole _) oV (Memref.isWhole_whole _) sV (Memref.isWhole_whole _)
            cc0_scoped1 rV (Memref.isWhole_whole _) cc0_scoped3 cc0_scoped4 (base L)) Q) := by
  rw [k0_part4_eq_skeleton]
  unfold k0_part4_skel
  iintro HI Hk
  iapply (loop_ok d L fx fi fo q O W hfi trips_eq) $$ HI
  iintro %acc HI
  unfold inv
  icases HI with ⟨%hacc, HI⟩
  subst hacc
  iapply (wp_assume _ _ _ _ (chk5_true L))
  iapply (wp_assume _ _ _ _ chk4_true)
  iapply (ret_wp d L rfl)
  iapply Hk
  isplitr
  · ipureintro; rfl
  iexact HI

set_option maxHeartbeats 4000000 in
theorem tile_core (hfi : InRange fi) :
    iprop((iAll d L fi ∗ oAll d L fo ∗ xSh d L fx q) ∗ ((iFree d L 0 ∗ iFree d L 1) ∗ (oFree d L 0 ∗ oFree d L 1) ∗ sem0 d L cc0_scoped4) ∗ owed d L O W)
      ⊢ wpT d L (cc0_gather_kernel (F := F) L xV (Memref.isWhole_whole _) iV (Memref.isWhole_whole _) oV (Memref.isWhole_whole _) sV (Memref.isWhole_whole _)
            cc0_scoped1 rV (Memref.isWhole_whole _) cc0_scoped3 cc0_scoped4)
          fun _ => iprop((iAll d L fi ∗ oAll d L (gRows fx fi) ∗ xSh d L fx q)
            ∗ ((iFree d L 0 ∗ iFree d L 1) ∗ (oFree d L 0 ∗ oFree d L 1) ∗ sem0 d L cc0_scoped4) ∗ owed d L O W) := by
  rw [cc0_gather_kernel_eq_skeleton]
  unfold cc0_gather_kernel_skel
  iintro ⟨⟨Hi, Ho, Hx⟩, ⟨⟨Hi0, Hi1⟩, ⟨Ho0, Ho1⟩, Hg⟩, HO⟩
  ihave H := (in_open d L fi) $$ [Hi Hi0 Hi1]
  · isplitl [Hi]; · iexact Hi
    isplitl [Hi0] <;> iassumption
  icases H with ⟨H, Hrest⟩
  iapply (bind_wp d L (p := k0_part3 (F := F) L xV (Memref.isWhole_whole _) iV (Memref.isWhole_whole _) oV (Memref.isWhole_whole _) sV (Memref.isWhole_whole _)
            cc0_scoped1 rV (Memref.isWhole_whole _) cc0_scoped3 cc0_scoped4) rfl)
  iapply (part3_ok d L fi) $$ H
  iintro Hf
  iapply (bind_wp d L (p := k0_part4 (F := F) L xV (Memref.isWhole_whole _) iV (Memref.isWhole_whole _) oV (Memref.isWhole_whole _) sV (Memref.isWhole_whole _)
            cc0_scoped1 rV (Memref.isWhole_whole _) cc0_scoped3 cc0_scoped4 (base L)) rfl)
  iapply (part4_ok d L fx fi fo q O W hfi) $$ [Hf Hrest Hx Hg HO Ho Ho0 Ho1]
  · iapply (inv_of d L fx fi fo q O W 0 _ rfl)
    isplitl [HO]; · iexact HO
    isplitl [Hx Hg]; · isplitl [Hx] <;> iassumption
    isplitl [Hf Hrest]
    · iapply (in_start d L fi)
      isplitl [Hf] <;> iassumption
    iapply (out_start d L fx fi fo)
    isplitl [Ho]; · iexact Ho
    isplitl [Ho0] <;> iassumption
  unfold inv owed
  iintro ⟨-, ⟨#Hmw, %W', %hW', HO⟩, ⟨Hx, Hg⟩, Hin, Hout⟩
  ihave Hin' := (in_end d L fi) $$ Hin
  icases Hin' with ⟨Hi, Hi0, Hi1⟩
  ihave Hout' := (out_end d L fx fi fo) $$ Hout
  icases Hout' with ⟨Hf, Hrest⟩
  iapply (wp_awaitOut d L fx fi (sl 11) (wnF L ⟨11, by omega⟩) (off19_eq L) off21_eq off20_eq _ _ _) $$ [Hf HO]
  · isplitl [Hf]; · iexact Hf
    isplitl [HO]; · iexact HO
    iexact Hmw
  iintro ⟨Hw, Hs, Hv, HO⟩
  iapply (ret_wp d L rfl)
  ihave Hout := (out_done d L fx fi fo) $$ [Hw Hs Hv Hrest]
  · isplitl [Hw]; · iexact Hw
    isplitl [Hs Hv]; · isplitl [Hs] <;> iassumption
    iexact Hrest
  icases Hout with ⟨Ho, Ho0, Ho1⟩
  isplitl [Hi Ho Hx]
  · isplitl [Hi]; · iexact Hi
    isplitl [Ho] <;> iassumption
  isplitl [Hi0 Hi1 Ho0 Ho1 Hg]
  · isplitl [Hi0 Hi1]; · isplitl [Hi0] <;> iassumption
    isplitl [Ho0 Ho1]; · isplitl [Ho0] <;> iassumption
    iexact Hg
  isplitr; · iexact Hmw
  iexists _; isplitr
  swap; · iexact HO
  ipureintro; intro p hp
  rcases Finset.mem_insert.mp hp with hp | hp; · exact .inr (hp ▸ rfl)
  exact hW' p hp

end Core

end Cert.Proof.Gather

end
-- ==== Proof.Body.lean ====
/-
  The tile's kernel as the call starts it: the windows, a share of the table, and the tile's own staging buffers and cells,
  which are cut into their slots for the run and joined again after it.
-/
module

public import proofs.«01_k».proof.Proof.Tile

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MG F

/-! ## The staging buffers as their slots -/

theorem iSlot_set (j : Fin 2) : (iSlot j).view.set = (Rect.unit (s := S2x1x128) ![j.val, 0, 0] S1x1x128.size (inb_iSlot j)).set := by
  show ((sV.view.slice (Rect.unit (s := S2x1x128) ![j.val, 0, 0] S1x1x128.size (inb_iSlot j))).reshape S1x128 squeezes_S1x1x128_S1x128.numel_eq).set = _
  rw [View.set_reshape]
  show ((View.whole (cc0_scoped0 : Ref sig .scVector)).slice _).set = _
  rw [View.set_slice]; exact Finset.map_refl
theorem oSlot_set (j : Fin 2) : (oSlot j).view.set = (Rect.unit (s := S2x128x128) ![j.val, 0, 0] S1x128x128.size (inb_oSlot j)).set := by
  show ((rV.view.slice (Rect.unit (s := S2x128x128) ![j.val, 0, 0] S1x128x128.size (inb_oSlot j))).reshape S128x128 squeezes_S1x128x128_S128x128.numel_eq).set = _
  rw [View.set_reshape]
  show ((View.whole (cc0_scoped2 : Ref sig .scVector)).slice _).set = _
  rw [View.set_slice]; exact Finset.map_refl

theorem iSlots_disjoint (j j' : Fin 2) (h : j ≠ j') : Disjoint (iSlot j).view.set (iSlot j').view.set := by
  rw [iSlot_set, iSlot_set]
  exact Ring.lead_disjoint (s := S2x1x128) 0 1 (fun j : Fin 2 => ![j.val, 0, 0]) S1x1x128.size inb_iSlot (by decide) rfl j j' h
theorem iSlots_cover : (Finset.univ : Finset (Fin 2)).biUnion (β := S2x1x128.Idx) (fun j => (iSlot j).view.set) = Finset.univ :=
  (Finset.biUnion_congr rfl fun j _ => iSlot_set j).trans
    (Ring.lead_cover (s := S2x1x128) 0 1 (fun j : Fin 2 => ![j.val, 0, 0]) S1x1x128.size inb_iSlot (by decide) (by decide) rfl (by decide) rfl)
theorem oSlots_disjoint (j j' : Fin 2) (h : j ≠ j') : Disjoint (oSlot j).view.set (oSlot j').view.set := by
  rw [oSlot_set, oSlot_set]
  exact Ring.lead_disjoint (s := S2x128x128) 0 1 (fun j : Fin 2 => ![j.val, 0, 0]) S1x128x128.size inb_oSlot (by decide) rfl j j' h
theorem oSlots_cover : (Finset.univ : Finset (Fin 2)).biUnion (β := S2x128x128.Idx) (fun j => (oSlot j).view.set) = Finset.univ :=
  (Finset.biUnion_congr rfl fun j _ => oSlot_set j).trans
    (Ring.lead_cover (s := S2x128x128) 0 1 (fun j : Fin 2 => ![j.val, 0, 0]) S1x128x128.size inb_oSlot (by decide) (by decide) rfl (by decide) rfl)

section Own

variable (d : Dev nD) (L : grid0.Coords)

theorem iSlots_in : iprop(∃ f, (thr d L).loc cc0_scoped0 ↦{fullShare} f) ⊢ (iprop(iS d L 0 ∗ iS d L 1) : sProp 𝕄) :=
  Ring.slots2_split (ℓ := (thr d L).loc cc0_scoped0) (fun j => (iSlot j).view.set) iSlots_disjoint iSlots_cover
    (fun f => (iSlot 0).view.loc (thr d L) ↦[(iSlot 0).view.set]{fullShare} f) (fun f => (iSlot 1).view.loc (thr d L) ↦[(iSlot 1).view.set]{fullShare} f)
    (fun _ => rfl) (fun _ => rfl)
theorem iSlots_out : iprop(iS d L 0 ∗ iS d L 1) ⊢ (iprop(∃ f, (thr d L).loc cc0_scoped0 ↦{fullShare} f) : sProp 𝕄) :=
  Ring.slots2_join (ℓ := (thr d L).loc cc0_scoped0) (fun j => (iSlot j).view.set) iSlots_disjoint iSlots_cover
    (fun f => (iSlot 0).view.loc (thr d L) ↦[(iSlot 0).view.set]{fullShare} f) (fun f => (iSlot 1).view.loc (thr d L) ↦[(iSlot 1).view.set]{fullShare} f)
    (fun _ => rfl) (fun _ => rfl)
theorem oSlots_in : iprop(∃ f, (thr d L).loc cc0_scoped2 ↦{fullShare} f) ⊢ (iprop(oS d L 0 ∗ oS d L 1) : sProp 𝕄) :=
  Ring.slots2_split (ℓ := (thr d L).loc cc0_scoped2) (fun j => (oSlot j).view.set) oSlots_disjoint oSlots_cover
    (fun f => (oSlot 0).view.loc (thr d L) ↦[(oSlot 0).view.set]{fullShare} f) (fun f => (oSlot 1).view.loc (thr d L) ↦[(oSlot 1).view.set]{fullShare} f)
    (fun _ => rfl) (fun _ => rfl)
theorem oSlots_out : iprop(oS d L 0 ∗ oS d L 1) ⊢ (iprop(∃ f, (thr d L).loc cc0_scoped2 ↦{fullShare} f) : sProp 𝕄) :=
  Ring.slots2_join (ℓ := (thr d L).loc cc0_scoped2) (fun j => (oSlot j).view.set) oSlots_disjoint oSlots_cover
    (fun f => (oSlot 0).view.loc (thr d L) ↦[(oSlot 0).view.set]{fullShare} f) (fun f => (oSlot 1).view.loc (thr d L) ↦[(oSlot 1).view.set]{fullShare} f)
    (fun _ => rfl) (fun _ => rfl)

/-! ## The tile's own cells and buffers -/

abbrev cell (s : DmaSems sig S_) : GSem nD τ sig := (thr d L, .dma s.sem)

theorem cell_mem (s : DmaSems sig S_) (h : (SemLoc.dma s.sem : SemLoc sig).isScoped .scVector = true) : cell d L s ∈ ownCells (thr d L) :=
  mem_ownCells.mpr ⟨rfl, h⟩
theorem cell_ne {s s' : DmaSems sig S_} (h : s.sem ≠ s'.sem) : cell d L s ≠ cell d L s' := fun e => h (by
  have := congrArg Prod.snd e
  injection this)

/-- What is left of the tile's cells. -/
def restCells : sProp 𝕄 :=
  bigSep (((((ownCells (thr d L)).erase (cell d L (iSem 0))).erase (cell d L (iSem 1))).erase (cell d L (oSem 0))).erase (cell d L (oSem 1))
    |>.erase (cell d L cc0_scoped4)) fun g => semVal g 0
/-- What is left of the tile's buffers. -/
def restBufs : sProp 𝕄 :=
  bigSep (((ownRefs (τ := τ) (.scVector (cV L) (jV L))).erase ((Proc.scVector (cV L) (jV L)).devRef cc0_scoped0)).erase
    ((Proc.scVector (cV L) (jV L)).devRef cc0_scoped2)) fun b => iprop(∃ f, ((d, b) : Loc nD τ sig) ↦{fullShare} f)

theorem ownSems0_tile : (ownSems0 (thr d L) : sProp 𝕄)
    = iprop(sem0 d L (iSem 0) ∗ sem0 d L (iSem 1) ∗ sem0 d L (oSem 0) ∗ sem0 d L (oSem 1) ∗ sem0 d L cc0_scoped4 ∗ restCells d L) := by
  unfold SparseCore.Cfg.ownSems0 restCells sem0
  have n01 := cell_ne d L (show (iSem 0).sem ≠ (iSem 1).sem by decide)
  have n02 := cell_ne d L (show (iSem 0).sem ≠ (oSem 0).sem by decide)
  have n03 := cell_ne d L (show (iSem 0).sem ≠ (oSem 1).sem by decide)
  have n04 := cell_ne d L (show (iSem 0).sem ≠ cc0_scoped4.sem by decide)
  have n12 := cell_ne d L (show (iSem 1).sem ≠ (oSem 0).sem by decide)
  have n13 := cell_ne d L (show (iSem 1).sem ≠ (oSem 1).sem by decide)
  have n14 := cell_ne d L (show (iSem 1).sem ≠ cc0_scoped4.sem by decide)
  have n23 := cell_ne d L (show (oSem 0).sem ≠ (oSem 1).sem by decide)
  have n24 := cell_ne d L (show (oSem 0).sem ≠ cc0_scoped4.sem by decide)
  have n34 := cell_ne d L (show (oSem 1).sem ≠ cc0_scoped4.sem by decide)
  have m0 := cell_mem d L (iSem 0) (by decide)
  have m1 := cell_mem d L (iSem 1) (by decide)
  have m2 := cell_mem d L (oSem 0) (by decide)
  have m3 := cell_mem d L (oSem 1) (by decide)
  have m4 := cell_mem d L cc0_scoped4 (by decide)
  rw [SparseCore.bigSep_erase' m0, SparseCore.bigSep_erase' (Finset.mem_erase.mpr ⟨n01.symm, m1⟩),
    SparseCore.bigSep_erase' (Finset.mem_erase.mpr ⟨n12.symm, Finset.mem_erase.mpr ⟨n02.symm, m2⟩⟩),
    SparseCore.bigSep_erase' (Finset.mem_erase.mpr ⟨n23.symm, Finset.mem_erase.mpr ⟨n13.symm, Finset.mem_erase.mpr ⟨n03.symm, m3⟩⟩⟩),
    SparseCore.bigSep_erase' (Finset.mem_erase.mpr ⟨n34.symm, Finset.mem_erase.mpr ⟨n24.symm, Finset.mem_erase.mpr ⟨n14.symm, Finset.mem_erase.mpr ⟨n04.symm, m4⟩⟩⟩⟩)]

theorem ownBufs_tile : (ownBufs (thr d L) : sProp 𝕄)
    = iprop((∃ f, (thr d L).loc cc0_scoped0 ↦{fullShare} f) ∗ (∃ f, (thr d L).loc cc0_scoped2 ↦{fullShare} f) ∗ restBufs d L) := by
  unfold SparseCore.Cfg.ownBufs restBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

end Own

section Body

variable [FloatOps F] (d : Dev nD) (L : grid0.Coords) (fx : Buf (Elt F) (xLoc d)) (fi : Buf (Elt F) (iLoc d)) (fo : Buf (Elt F) (oLoc d))
variable (q : PosShare TreeShare) (O : CellTallies nD τ sig (HIx 1)) (W : Waits sig (HIx 1))

theorem tile_body (hF : (K (F := F)).Facts) (hfi : InRange fi) (hO : ∀ g, O g none = 0) :
    iprop(levAts (K (F := F)).L (K (F := F)).lev ∗ emp ∗ (iAll d L fi ∗ oAll d L fo ∗ xSh d L fx q)
        ∗ scopedBufs (thr d L) ∗ scopedSems0 (thr d L) ∗ owes (thr d L) O W)
      ⊢ wpT d L (cc0_gather_kernel (F := F) L xV (Memref.isWhole_whole _) iV (Memref.isWhole_whole _) oV (Memref.isWhole_whole _) sV (Memref.isWhole_whole _)
            cc0_scoped1 rV (Memref.isWhole_whole _) cc0_scoped3 cc0_scoped4)
          fun _ => iprop((iAll d L fi ∗ oAll d L (gRows fx fi) ∗ xSh d L fx q)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_tile, ownBufs_tile]
  iintro ⟨#Hlv, -, Hp, ⟨Hs, Hr, Hbufs⟩, ⟨Hi0, Hi1, Ho0, Ho1, Hg, Hsems⟩, HO⟩
  ihave Hmw := (show levAts (K (F := F)).L (K (F := F)).lev ⊢ Transfers.MayWaits (thr d L) (default : HIx 1) O from
    (K (F := F)).mayWaits_none (thr := thr d L) hO) $$ Hlv
  ihave Hs' := (iSlots_in d L) $$ Hs
  icases Hs' with ⟨Hs0, Hs1⟩
  ihave Hr' := (oSlots_in d L) $$ Hr
  icases Hr' with ⟨Hr0, Hr1⟩
  iapply (wp_wand_r frame _ _)
  isplitl [Hp Hi0 Hi1 Ho0 Ho1 Hg Hs0 Hs1 Hr0 Hr1 HO Hmw]
  · iapply (tile_core d L fx fi fo q O W hfi)
    isplitl [Hp]; · iexact Hp
    isplitl [Hi0 Hi1 Ho0 Ho1 Hg Hs0 Hs1 Hr0 Hr1]
    · isplitl [Hi0 Hi1 Hs0 Hs1]
      · isplitl [Hi0 Hs0]; · isplitl [Hs0] <;> iassumption
        isplitl [Hs1] <;> iassumption
      isplitl [Ho0 Ho1 Hr0 Hr1]
      · isplitl [Ho0 Hr0]; · isplitl [Hr0] <;> iassumption
        isplitl [Hr1] <;> iassumption
      iexact Hg
    unfold owed
    isplitl [Hmw]; · iexact Hmw
    iexists W; isplitr
    · ipureintro; exact fun p hp => .inl hp
    iexact HO
  iintro %_ ⟨Hp, ⟨⟨⟨Hs0, Hi0⟩, Hs1, Hi1⟩, ⟨⟨Hr0, Ho0⟩, Hr1, Ho1⟩, Hg⟩, HO⟩
  isplitl [Hp]; · iexact Hp
  isplitl [Hs0 Hs1 Hr0 Hr1 Hbufs]
  · isplitl [Hs0 Hs1]
    · iapply (iSlots_out d L); isplitl [Hs0] <;> iassumption
    isplitl [Hr0 Hr1]
    · iapply (oSlots_out d L); isplitl [Hr0] <;> iassumption
    iexact Hbufs
  isplitl [Hi0 Hi1 Ho0 Ho1 Hg Hsems]
  · isplitl [Hi0]; · iexact Hi0
    isplitl [Hi1]; · iexact Hi1
    isplitl [Ho0]; · iexact Ho0
    isplitl [Ho1]; · iexact Ho1
    isplitl [Hg] <;> iassumption
  unfold owed
  icases HO with ⟨-, HO⟩
  iexact HO

end Body

end Cert.Proof.Gather

end
-- ==== Proof.Launch.lean ====
/-
  The call's launch: what the two SparseCores and their tiles are handed and hand back, the tile's obligation, and how the
  three whole arrays are cut into the 32 tiles' pieces — each its twelve windows of the row numbers and of the result, and
  a read share of the table.
-/
module

public import proofs.«01_k».proof.Proof.Body
public import proofs.«01_k».proof.Proof.Gen.KernelIdeal.Launch
public import Idealize.ShloMosaic.Lib.ShareLeaves

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type}
local notation "𝕄" => MG F

/-! ## The pieces -/

/-- The tile of SparseCore `c` and number `s`, by its coordinates. -/
def tileAt (c : Fin 2) (s : Fin 16) : grid0.Coords :=
  fun | 0 => c | 1 => s | ⟨_ + 2, h⟩ => absurd h (Nat.not_lt.2 (Nat.le_add_left _ _))

/-- The tile's number among the 32. -/
def tileNo (c : Fin 2) (s : Fin 16) : Fin (2 ^ 5) := ⟨s.val + 16 * c.val, by have := c.isLt; have := s.isLt; norm_num; omega⟩

/-- What the tile takes, the windows of the result at `f`. -/
def piece (d : Dev nD) (fx : Buf (Elt F) (xLoc d)) (fi : Buf (Elt F) (iLoc d)) (f : Buf (Elt F) (oLoc d)) (c : Fin 2) (s : Fin 16) : sProp 𝕄 :=
  iprop(iAll d (tileAt c s) fi ∗ oAll d (tileAt c s) f ∗ xSh d (tileAt c s) fx (leaf 5 fullShare (tileNo c s)))

instance iW_storable (d : Dev nD) (L : grid0.Coords) (fi : Buf (Elt F) (iLoc d)) (n : Fin 384) : BI.Storable (upEmb : UEmb _ 𝕄) (iW d L fi n) :=
  have h : ∀ I : Finset (Idx (iLoc d)), BI.Storable (upEmb : UEmb _ 𝕄) (iLoc d ↦[I]{fullShare} fi) := fun _ => inferInstance
  h (iWin n).view.set
instance oW_storable (d : Dev nD) (L : grid0.Coords) (n : Fin 384) (f : Buf (Elt F) (oLoc d)) : BI.Storable (upEmb : UEmb _ 𝕄) (oW d L n f) :=
  have h : ∀ I : Finset (Idx (oLoc d)), BI.Storable (upEmb : UEmb _ 𝕄) (oLoc d ↦[I]{fullShare} f) := fun _ => inferInstance
  h (oWin n).view.set
instance iAll_storable (d : Dev nD) (L : grid0.Coords) (fi : Buf (Elt F) (iLoc d)) : BI.Storable (upEmb : UEmb _ 𝕄) (iAll d L fi) := by
  unfold iAll iPc; infer_instance
instance oAll_storable (d : Dev nD) (L : grid0.Coords) (f : Buf (Elt F) (oLoc d)) : BI.Storable (upEmb : UEmb _ 𝕄) (oAll d L f) := by
  unfold oAll; infer_instance
instance xSh_storable (d : Dev nD) (L : grid0.Coords) (fx : Buf (Elt F) (xLoc d)) (q : PosShare TreeShare) : BI.Storable (upEmb : UEmb _ 𝕄) (xSh d L fx q) :=
  (inferInstance : BI.Storable (upEmb : UEmb _ 𝕄) (xLoc d ↦[xAll.view.set]{q} fx))
instance piece_storable (d : Dev nD) (fx : Buf (Elt F) (xLoc d)) (fi : Buf (Elt F) (iLoc d)) (f : Buf (Elt F) (oLoc d)) (c : Fin 2) (s : Fin 16) :
    BI.Storable (upEmb : UEmb _ 𝕄) (piece d fx fi f c s) := by
  unfold piece; infer_instance

/-- What a SparseCore takes: its sixteen tiles' pieces. -/
def pieces (d : Dev nD) (fx : Buf (Elt F) (xLoc d)) (fi : Buf (Elt F) (iLoc d)) (f : Buf (Elt F) (oLoc d)) (c : Fin 2) : sProp 𝕄 :=
  bigSep Finset.univ fun s => piece d fx fi f c s

instance pieces_storable (d : Dev nD) (fx : Buf (Elt F) (xLoc d)) (fi : Buf (Elt F) (iLoc d)) (f : Buf (Elt F) (oLoc d)) (c : Fin 2) :
    BI.Storable (upEmb : UEmb _ 𝕄) (pieces d fx fi f c) := by
  unfold pieces; infer_instance

theorem xAll_set : xAll.view.set = (Finset.univ : Finset S196608x128.Idx) := by
  show ((View.whole (main_v8_scv : Ref sig .scVector)).slice _).set = _
  rw [View.set_slice]
  refine Finset.map_refl.trans ?_
  ext i
  simp only [Finset.mem_univ, iff_true]
  refine Rect.mem_set_unit.mpr ?_
  intro a
  have := (i a).isLt
  match a with
  | 0 => exact ⟨Nat.zero_le _, this.trans_le (Nat.le_add_left _ _)⟩
  | 1 => exact ⟨Nat.zero_le _, this.trans_le (Nat.le_add_left _ _)⟩

theorem iWin_set (n : Fin 384) : (iWin n).view.set = (Rect.unit (s := S1x49152) ![0, 128 * n.val] S1x128.size (inb_iWin n)).set := by
  show ((View.whole (main_v18_scv : Ref sig .scVector)).slice _).set = _
  rw [View.set_slice]; exact Finset.map_refl
theorem oWin_set (n : Fin 384) : (oWin n).view.set = (Rect.unit (s := S49152x128) ![128 * n.val, 0] S128x128.size (inb_oWin n)).set := by
  show ((View.whole (main_v19_scv : Ref sig .scVector)).slice _).set = _
  rw [View.set_slice]; exact Finset.map_refl

theorem iWins_disjoint (n n' : Fin 384) (h : n ≠ n') : Disjoint (iWin n).view.set (iWin n').view.set := by
  rw [iWin_set, iWin_set]
  exact Ring.lead_disjoint (s := S1x49152) 1 128 (fun n : Fin 384 => ![0, 128 * n.val]) S1x128.size inb_iWin (fun _ => rfl) rfl n n' h
theorem iWins_cover : (Finset.univ : Finset (Fin 384)).biUnion (β := S1x49152.Idx) (fun n => (iWin n).view.set) = Finset.univ :=
  (Finset.biUnion_congr rfl fun n _ => iWin_set n).trans
    (Ring.lead_cover (s := S1x49152) 1 128 (fun n : Fin 384 => ![0, 128 * n.val]) S1x128.size inb_iWin (fun _ => rfl)
      (by intro n a ha; revert a; show ∀ a : Fin 2, _; intro a ha; match a with | 0 => rfl | 1 => exact absurd rfl ha) rfl
      (by intro a ha; revert a; show ∀ a : Fin 2, _; intro a ha; match a with | 0 => rfl | 1 => exact absurd rfl ha) rfl)
theorem oWins_disjoint (n n' : Fin 384) (h : n ≠ n') : Disjoint (oWin n).view.set (oWin n').view.set := by
  rw [oWin_set, oWin_set]
  exact Ring.lead_disjoint (s := S49152x128) 0 128 (fun n : Fin 384 => ![128 * n.val, 0]) S128x128.size inb_oWin (fun _ => rfl) rfl n n' h
theorem oWins_cover : (Finset.univ : Finset (Fin 384)).biUnion (β := S49152x128.Idx) (fun n => (oWin n).view.set) = Finset.univ :=
  (Finset.biUnion_congr rfl fun n _ => oWin_set n).trans
    (Ring.lead_cover (s := S49152x128) 0 128 (fun n : Fin 384 => ![128 * n.val, 0]) S128x128.size inb_oWin (fun _ => rfl)
      (by intro n a ha; revert a; show ∀ a : Fin 2, _; intro a ha; match a with | 0 => exact absurd rfl ha | 1 => rfl) rfl
      (by intro a ha; revert a; show ∀ a : Fin 2, _; intro a ha; match a with | 0 => exact absurd rfl ha | 1 => rfl) rfl)

/-- The tiles' numbers are the 32, and their windows the 384. -/
def tileEquiv : Fin 2 × Fin 16 ≃ Fin (2 ^ 5) := Equiv.ofBijective (fun p => tileNo p.1 p.2) (by
  refine (Fintype.bijective_iff_injective_and_card _).mpr ⟨?_, by simp⟩
  rintro ⟨c, s⟩ ⟨c', s'⟩ h
  have h' : s.val + 16 * c.val = s'.val + 16 * c'.val := congrArg Fin.val h
  have := s.isLt; have := s'.isLt
  exact Prod.ext (Fin.ext (show c.val = c'.val by omega)) (Fin.ext (show s.val = s'.val by omega)))
def winEquiv : (Fin 2 × Fin 16) × Fin 12 ≃ Fin 384 := Equiv.ofBijective (fun p => wnF (tileAt p.1.1 p.1.2) p.2) (by
  refine (Fintype.bijective_iff_injective_and_card _).mpr ⟨?_, by simp⟩
  rintro ⟨⟨c, s⟩, w⟩ ⟨⟨c', s'⟩, w'⟩ h
  have h' : (s.val + 16 * c.val) * 12 + w.val = (s'.val + 16 * c'.val) * 12 + w'.val := congrArg Fin.val h
  have := s.isLt; have := s'.isLt; have := w.isLt; have := w'.isLt
  have hw : w.val = w'.val := by omega
  exact Prod.ext (Prod.ext (Fin.ext (show c.val = c'.val by omega)) (Fin.ext (show s.val = s'.val by omega))) (Fin.ext (by omega)))

section Cut

variable (d : Dev nD) (fx : Buf (Elt F) (xLoc d)) (fi : Buf (Elt F) (iLoc d)) (f : Buf (Elt F) (oLoc d))

theorem i_cut : (iLoc d ↦{fullShare} fi : sProp 𝕄) = bigSep Finset.univ fun c => bigSep Finset.univ fun s => iAll d (tileAt c s) fi := by
  rw [Ring.pointsTo_blocks (ℓ := iLoc d) (fun n => (iWin n).view.set) iWins_disjoint iWins_cover fi, bigSep_univ_equiv winEquiv, bigSep_univ_prod, bigSep_univ_prod]
  rfl
theorem o_cut : (oLoc d ↦{fullShare} f : sProp 𝕄) = bigSep Finset.univ fun c => bigSep Finset.univ fun s => oAll d (tileAt c s) f := by
  rw [Ring.pointsTo_blocks (ℓ := oLoc d) (fun n => (oWin n).view.set) oWins_disjoint oWins_cover f, bigSep_univ_equiv winEquiv, bigSep_univ_prod, bigSep_univ_prod]
  rfl
theorem x_cut : (xLoc d ↦{fullShare} fx : sProp 𝕄)
    = bigSep Finset.univ fun c => bigSep Finset.univ fun s => xSh d (tileAt c s) fx (leaf 5 fullShare (tileNo c s)) := by
  rw [pointsTo_leaves Finset.univ fx 5 fullShare, bigSep_univ_equiv tileEquiv, bigSep_univ_prod]
  unfold xSh
  rw [xAll_set]
  rfl

/-- The three arrays are the tiles' pieces. -/
theorem cut : iprop((iLoc d ↦{fullShare} fi) ∗ (oLoc d ↦{fullShare} f) ∗ xLoc d ↦{fullShare} fx)
    = (bigSep Finset.univ fun c => pieces d fx fi f c : sProp 𝕄) := by
  rw [i_cut, o_cut, x_cut]
  unfold pieces piece
  simp only [bigSep_sep']

end Cut

/-! ## What the handshakes carry -/

section Launch

variable [FloatOps F] (fx : (d : Dev nD) → Buf (Elt F) (xLoc d)) (fi : (d : Dev nD) → Buf (Elt F) (iLoc d)) (fo : (d : Dev nD) → Buf (Elt F) (oLoc d))

/-- A number below `n` as the launch counts it. -/
def core2 (c : ℕ) : Fin 2 := ⟨c % 2, Nat.mod_lt _ (by decide)⟩
def tile16 (s : ℕ) : Fin 16 := ⟨s % 16, Nat.mod_lt _ (by decide)⟩

/-- Each SparseCore takes its sixteen tiles' pieces and brings them back, the result's windows at the gathered rows. -/
def P : (K (F := F)).Pay (nD := nD) (Val := Elt F) (Name := ℕ) (U := UU) where
  st := fun _ d c => pieces d (fx d) (fi d) (fo d) (core2 c.val)
  dn := fun _ d c => pieces d (fx d) (fi d) (gRows (fx d) (fi d)) (core2 c.val)
  go := fun _ d c s => piece d (fx d) (fi d) (fo d) (core2 c.val) (tile16 s.val)
  td := fun _ d c s => piece d (fx d) (fi d) (gRows (fx d) (fi d)) (core2 c.val) (tile16 s.val)
  x := fun _ _ => iprop(emp)

instance P_storable : (P fx fi fo).IsStorable where
  st _ d c := pieces_storable d (fx d) (fi d) (fo d) (core2 c.val)
  dn _ d c := pieces_storable d (fx d) (fi d) (gRows (fx d) (fi d)) (core2 c.val)
  go _ d c s := piece_storable d (fx d) (fi d) (fo d) (core2 c.val) (tile16 s.val)
  td _ d c s := piece_storable d (fx d) (fi d) (gRows (fx d) (fi d)) (core2 c.val) (tile16 s.val)

theorem defs₀_tile (c : Fin τ.nSC) (s : Fin τ.nSub) :
    defs₀ (F := F) (.scVector c s) 0 ()
      = SparseCore.onTile hcore0 hsub0 (fun c s => cc0_gather_kernel (tileAt c s)
          xV (Memref.isWhole_whole _) iV (Memref.isWhole_whole _) oV (Memref.isWhole_whole _) sV (Memref.isWhole_whole _)
          cc0_scoped1 rV (Memref.isWhole_whole _) cc0_scoped3 cc0_scoped4) ⟨⟩ c s := rfl

omit [FloatOps F] in
theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hfi : ∀ d, InRange (F := F) (fi d)) : (K (F := F)).TileObl (D (F := F)) 𝒱 (P fx fi fo) v₀ 0 := by
  intro d c i O W hO _ _
  simp only [show (P fx fi fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : core2 c.val = ⟨((K (F := F)).core 0 c).val, hci.1⟩ := Fin.ext (Nat.mod_eq_of_lt hci.1)
  have hs : tile16 i.val = ⟨((K (F := F)).sub 0 i).val, hci.2⟩ := Fin.ext (Nat.mod_eq_of_lt hci.2)
  unfold P
  dsimp only
  rw [hc, hs]
  rw [defs₀_tile]; simp only [SparseCore.onTile, hci, and_self, ↓reduceDIte]
  exact (tile_body d (tileAt ⟨_, hci.1⟩ ⟨_, hci.2⟩) (fx d) (fi d) (fo d) (leaf 5 fullShare (tileNo ⟨_, hci.1⟩ ⟨_, hci.2⟩)) O W facts (hfi d) hO).trans
    (wp_mono frame _ _ fun _ => weaken_waits)

theorem tiles_all (Φ : Fin 16 → sProp 𝕄) : (bigSep Finset.univ fun i : Fin 16 => Φ (tile16 i.val)) = bigSep Finset.univ Φ :=
  bigSep_congr fun i _ => congrArg Φ (Fin.ext (Nat.mod_eq_of_lt i.isLt))
theorem cores_all {n : ℕ} (h : n = 2) (Φ : Fin 2 → sProp 𝕄) : (bigSep Finset.univ fun c : Fin n => Φ (core2 c.val)) = bigSep Finset.univ Φ := by
  subst h; exact bigSep_congr fun c _ => congrArg Φ (Fin.ext (Nat.mod_eq_of_lt c.isLt))
theorem P_st (d : Dev nD) (c : Fin ((K (F := F)).nCore 0)) : (P fx fi fo).st 0 d c = pieces d (fx d) (fi d) (fo d) (core2 c.val) := rfl
theorem P_dn (d : Dev nD) (c : Fin ((K (F := F)).nCore 0)) : (P fx fi fo).dn 0 d c = pieces d (fx d) (fi d) (gRows (fx d) (fi d)) (core2 c.val) := rfl

theorem vecSplit : (K (F := F)).VecSplit' (P fx fi fo) 0 := by
  intro d c
  show pieces d (fx d) (fi d) (fo d) (core2 c.val) ⊢ |={Set.univ}=> iprop(
      (bigSep Finset.univ fun s : Fin 16 => piece d (fx d) (fi d) (fo d) (core2 c.val) (tile16 s.val))
      ∗ ((bigSep Finset.univ fun s : Fin 16 => piece d (fx d) (fi d) (gRows (fx d) (fi d)) (core2 c.val) (tile16 s.val))
          -∗ pieces d (fx d) (fi d) (gRows (fx d) (fi d)) (core2 c.val)))
  rw [tiles_all (piece d (fx d) (fi d) (fo d) (core2 c.val)), tiles_all (piece d (fx d) (fi d) (gRows (fx d) (fi d)) (core2 c.val))]
  unfold pieces
  iintro H; imodintro
  isplitl [H]; · iexact H
  iintro H; iexact H

/-- The whole arrays are what the call takes. -/
theorem takes (d : Dev nD) : iprop((iLoc d ↦{fullShare} fi d) ∗ (oLoc d ↦{fullShare} fo d) ∗ xLoc d ↦{fullShare} fx d)
    = bigSep Finset.univ fun c : Fin ((K (F := F)).nCore 0) => (P fx fi fo).st 0 d c := by
  refine (cut d (fx d) (fi d) (fo d)).trans ?_
  simp only [P_st]
  exact (cores_all (F := F) nCore_zero (pieces d (fx d) (fi d) (fo d))).symm
/-- and what it brings back, the result at the gathered rows. -/
theorem brings (d : Dev nD) : iprop((iLoc d ↦{fullShare} fi d) ∗ (oLoc d ↦{fullShare} gRows (fx d) (fi d)) ∗ xLoc d ↦{fullShare} fx d)
    = bigSep Finset.univ fun c : Fin ((K (F := F)).nCore 0) => (P fx fi fo).dn 0 d c := by
  refine (cut d (fx d) (fi d) (gRows (fx d) (fi d))).trans ?_
  simp only [P_dn]
  exact (cores_all (F := F) nCore_zero (pieces d (fx d) (fi d) (gRows (fx d) (fi d)))).symm

/-! ## The ghost state at the launch -/

theorem emps {I : Type} (s : Finset I) : (bigSep s fun _ => iprop(emp)) = (iprop(emp) : sProp 𝕄) := bigSep_emp_const s

/-- No pipeline reads a prefetched table. -/
abbrev adm : (p : Fin 1) → (pcfgs (F := F) p).Adm := fun p => (cfgs p).toPCfg_adm
/-- The grid's pipeline, its admissible table fixed. -/
abbrev pinned : Fin 1 → Pipeline.Cfg sig Λ₀ := Pipeline.pin (pcfgs (F := F)) adm

theorem pinned_inj : Function.Injective (Pipeline.cellOf (nD := nD) (τ := τ) (pinned (F := F))) := cellOf_inj

/-- What the launch deals a device for the grid: its cells' ghost state and the tokens of its transfers. -/
def dealt (d : Dev nD) : sProp 𝕄 :=
  iprop(Pipeline.cellsGhost (pinned (F := F)) EP 0 d ∗ Pipeline.toksInit (pinned (F := F)) EP 0 d)

def u₀ : UU := (initOf (K (F := F)).hsCells (K (F := F)).hsToks,
  (initOf (Pipeline.cells (pinned (F := F)) pinned_inj) (Pipeline.launchToks (pinned (F := F)) pinned_inj), 1))

theorem dealt_of : (BI.own (EP (F := F) (initOf (Pipeline.cells (pinned (F := F)) pinned_inj) (Pipeline.launchToks (pinned (F := F)) pinned_inj))) : sProp 𝕄)
    ⊢ |==> bigSep Finset.univ fun d : Dev nD => dealt (F := F) d := by
  iintro H
  imod (Pipeline.fund_ghost (pinned (F := F)) (EP (F := F)) pinned_inj) $$ H with ⟨Hc, Ht⟩
  imodintro
  unfold dealt
  rw [bigSep_sep']
  isplitl [Hc]
  · iapply (Entails.of_eq (bigSep_congr (s := (Finset.univ : Finset (Dev nD))) fun d _ => bigSep_univ_of_subsingleton (Φ := fun p : Fin 1 => Pipeline.cellsGhost (pinned (F := F)) (EP (F := F)) p d) (0 : Fin 1)))
    iexact Hc
  · iapply (Entails.of_eq (bigSep_congr (s := (Finset.univ : Finset (Dev nD))) fun d _ => bigSep_univ_of_subsingleton (Φ := fun p : Fin 1 => Pipeline.toksInit (pinned (F := F)) (EP (F := F)) p d) (0 : Fin 1)))
    iexact Ht

theorem hu₀ : (ownU (u₀ (F := F)) : sProp 𝕄)
    ⊢ |={Set.univ}=> iprop(BI.own (EH (initOf (K (F := F)).hsCells (K (F := F)).hsToks)) ∗ (bigSep Finset.univ fun d : Dev nD => dealt (F := F) d)
        ∗ bigSep Finset.univ fun thr : Thread nD τ => bigSep Finset.univ fun q : Fin 1 => (P fx fi fo).x q thr) := by
  unfold u₀
  iintro Hu
  ihave H := (ownU_pair (initOf (K (F := F)).hsCells (K (F := F)).hsToks)
    ((initOf (Pipeline.cells (pinned (F := F)) pinned_inj) (Pipeline.launchToks (pinned (F := F)) pinned_inj), 1) : UP × Counters)) $$ Hu
  icases H with ⟨HH, HP⟩
  ihave H := (own_pair_emb (embR : Emb (UP × Counters) 𝕄) (initOf (Pipeline.cells (pinned (F := F)) pinned_inj) (Pipeline.launchToks (pinned (F := F)) pinned_inj)) (1 : Counters)) $$ HP
  icases H with ⟨HP, -⟩
  imod (dealt_of (F := F)) $$ HP with Hd
  imodintro
  isplitl [HH]; · iexact HH
  isplitl [Hd]; · iexact Hd
  rw [show (bigSep Finset.univ fun thr : Thread nD τ => bigSep Finset.univ fun q : Fin 1 => (P (F := F) fx fi fo).x q thr) = bigSep Finset.univ fun _ => iprop(emp) from
    bigSep_congr fun _ _ => bigSep_univ_of_subsingleton (0 : Fin 1), emps]
  iempintro

end Launch

end Cert.Proof.Gather

end
-- ==== Proof.TcGrid.lean ====
/-
  The grid's calls of the body: what the arrays are read through at each point, what a call leaves in the result's
  buffer, and the grid's run as one step of the program — from its nine arrays at known contents to the same arrays,
  the result's written block by block.
-/
module

public import proofs.«01_k».proof.Proof.TcParts
public import proofs.«01_k».proof.Proof.Launch
public import Idealize.ShloMosaic.Lib.Pipeline.RegionArrays
public import Idealize.ShloMosaic.Lib.Pipeline.FrameTail
public import Idealize.ShloMosaic.Lib.Pipeline.FrameBody
public import proofs.«01_k».proof.Proof.Gen.KernelIdeal.Points

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)

variable {F : FTy → Type}
local notation "𝕄" => MG F

variable [FloatOps F] [∀ e, Nonempty (Elt F e)]

/-! ## What a call leaves -/

/-- The result's block: the two halves. -/
def outV (X : Blocks F) : Vec F S2x128x8x384 .f32 := View.canon [⟨rX 1, slab X 1⟩, ⟨rX 0, slab X 0⟩]

theorem mem_half (y : S2x128x8x384.Idx) (db : Fin 2) (h : (y 0).val = db.val) : y ∈ (rX db).set := by
  rw [Rect.mem_set_unit]
  intro a
  have := (y a).isLt
  fin_cases a
  · exact ⟨by simpa using h.ge, by simpa using by omega⟩
  all_goals exact ⟨Nat.zero_le _, by simpa using this⟩

theorem halves_cover (X : Blocks F) (y : S2x128x8x384.Idx) :
    ∃ p ∈ ([⟨rX 1, slab X 1⟩, ⟨rX 0, slab X 0⟩] : List (View.Piece (Elt F) S2x128x8x384 .f32)), y ∈ p.1.set := by
  have h : (y 0).val < 2 := (y 0).isLt
  rcases Nat.lt_or_ge (y 0).val 1 with h0 | h1
  · exact ⟨⟨rX 0, slab X 0⟩, by simp, mem_half y 0 (by show _ = 0; omega)⟩
  · exact ⟨⟨rX 1, slab X 1⟩, by simp, mem_half y 1 (by show _ = 1; omega)⟩

theorem read_halves (X : Blocks F) (v : View sig .tc .vmem S2x128x8x384 .f32) (f : v.ty.Contents (Elt F)) :
    v.read (Elt F) (v.writes (Elt F) f [⟨rX 1, slab X 1⟩, ⟨rX 0, slab X 0⟩]) = outV X :=
  View.read_writes_eq_canon v f _ (halves_cover X)

/-! ## The grid's arrays -/

variable (c : Dev nD) (A : Valuation τ sig (Elt F))

/-- Window `w`'s block at point `t` of the arrays `A`. -/
abbrev blockAt (w : Fin 9) (t : Fin cfg1.N) : ((cfg1.win w).xblock (cfg1.grid.coords t)).Idx → Elt F (cfg1.win w).elt :=
  ((cfg1.win w).blk t).view.read (Elt F) (A (Proc.devRef .tc (Pipeline.arrRef cfg1.spec w)))

/-- The blocks a call reads at point `t`. -/
def blocksAt (t : Fin cfg1.N) : Blocks F where
  x := blockAt A 0 t
  g := blockAt A 1 t
  aw := blockAt A 2 t
  w := blockAt A 3 t
  wi := blockAt A 4 t
  bi := blockAt A 5 t
  wo := blockAt A 6 t
  bo := blockAt A 7 t

/-- The buffers a call works on at point `t`. -/
abbrev bufsAt (t : Fin cfg1.N) : Bufs where
  x := win1_0.stage (cfg1.slots t 0)
  hx := hstage1_0 ((cfg1.slots t 0).cast nbuf1_0)
  g := win1_1.stage (cfg1.slots t 1)
  hg := hstage1_1 ((cfg1.slots t 1).cast nbuf1_1)
  aw := win1_2.stage (cfg1.slots t 2)
  haw := hstage1_2 ((cfg1.slots t 2).cast nbuf1_2)
  w := win1_3.stage (cfg1.slots t 3)
  hw := hstage1_3 ((cfg1.slots t 3).cast nbuf1_3)
  wi := win1_4.stage (cfg1.slots t 4)
  hwi := hstage1_4 ((cfg1.slots t 4).cast nbuf1_4)
  bi := win1_5.stage (cfg1.slots t 5)
  hbi := hstage1_5 ((cfg1.slots t 5).cast nbuf1_5)
  wo := win1_6.stage (cfg1.slots t 6)
  hwo := hstage1_6 ((cfg1.slots t 6).cast nbuf1_6)
  bo := win1_7.stage (cfg1.slots t 7)
  hbo := hstage1_7 ((cfg1.slots t 7).cast nbuf1_7)
  o := win1_8.stage (cfg1.slots t 8)
  ho := hstage1_8 ((cfg1.slots t 8).cast nbuf1_8)

/-- The waits a core may have behind it when the grid starts: those of the handshakes up to the first call's end. -/
abbrev early : Set (SemLoc sig × HIx 1) := {p | (K (F := F)).lev ((T c : Thread nD τ), p.1) p.2 ≤ 8}

/-- The grid's proof data. -/
def dat : Pipeline.Dat τ (Elt F) (HIx 1) ℕ UU ℕ cfg1 c where
  A w := A (Proc.devRef .tc (Pipeline.arrRef cfg1.spec w))
  after
    | 0, t => blockAt A 0 t
    | 1, t => blockAt A 1 t
    | 2, t => blockAt A 2 t
    | 3, t => blockAt A 3 t
    | 4, t => blockAt A 4 t
    | 5, t => blockAt A 5 t
    | 6, t => blockAt A 6 t
    | 7, t => blockAt A 7 t
    | 8, t => outV (blocksAt A t)
    | ⟨_ + 9, h⟩, _ => absurd h (Nat.not_lt.2 (Nat.le_add_left _ _))
  Φ _ := iprop(emp)
  q _ := fullShare
  owed _ := 0
  recorded _ := early (F := F) c

end Cert.Proof.Gather

end
-- ==== Proof.TcRegion.lean ====
/-
  The grid's run as one step of the program: each call meets what the pipeline asks of it, and the whole grid takes
  its nine arrays at known contents to the same arrays with the result's written block by block.
-/
module

public import proofs.«01_k».proof.Proof.TcGrid

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)

variable {F : FTy → Type}
local notation "𝕄" => MG F

variable [FloatOps F] [∀ e, Nonempty (Elt F e)]

variable (c : Dev nD) (A : Valuation τ sig (Elt F))

theorem found_in (w : Fin 9) (hw : (cfg1.win w).isOut = false)
    (hkeep : ∀ t, (cfg1.win w).cut (cfg1.grid.coords t) ((dat c A).after w t) = (dat c A).blockOf w t)
    (hclip : ∀ t t' : Fin cfg1.N, (cfg1.win w).clip (cfg1.grid.coords t) = (cfg1.win w).clip (cfg1.grid.coords t'))
    (t : Fin cfg1.N) (d : (cfg1.win w).block.Idx → Elt F (cfg1.win w).elt) : (dat c A).before w t d = (dat c A).fetched w t d :=
  (dat c A).before_in_eq_fetched w hw (fun _ => rfl) (fun t t' _ => hclip t t') hkeep t d

theorem found_0 (t : Fin cfg1.N) (d) : (dat c A).before 0 t d = blockAt A 0 t := found_in c A 0 rfl (fun _ => by dsimp only [dat]; rfl) (fun _ _ => rfl) t d
theorem found_1 (t : Fin cfg1.N) (d) : (dat c A).before 1 t d = blockAt A 1 t := found_in c A 1 rfl (fun _ => by dsimp only [dat]; rfl) (fun _ _ => rfl) t d
theorem found_2 (t : Fin cfg1.N) (d) : (dat c A).before 2 t d = blockAt A 2 t := found_in c A 2 rfl (fun _ => by dsimp only [dat]; rfl) (fun _ _ => rfl) t d
theorem found_3 (t : Fin cfg1.N) (d) : (dat c A).before 3 t d = blockAt A 3 t := found_in c A 3 rfl (fun _ => by dsimp only [dat]; rfl) (fun _ _ => rfl) t d
theorem found_4 (t : Fin cfg1.N) (d) : (dat c A).before 4 t d = blockAt A 4 t := found_in c A 4 rfl (fun _ => by dsimp only [dat]; rfl) (fun _ _ => rfl) t d
theorem found_5 (t : Fin cfg1.N) (d) : (dat c A).before 5 t d = blockAt A 5 t := found_in c A 5 rfl (fun _ => by dsimp only [dat]; rfl) (fun _ _ => rfl) t d
theorem found_6 (t : Fin cfg1.N) (d) : (dat c A).before 6 t d = blockAt A 6 t := found_in c A 6 rfl (fun _ => by dsimp only [dat]; rfl) (fun _ _ => rfl) t d
theorem found_7 (t : Fin cfg1.N) (d) : (dat c A).before 7 t d = blockAt A 7 t := found_in c A 7 rfl (fun _ => by dsimp only [dat]; rfl) (fun _ _ => rfl) t d

/-- The owed units and the recorded waits stay as they are through a call. -/
theorem owes_kept (t : Fin cfg1.N) : (dat (F := F) c A).owesAt (none : HIx 1) t.succ = (dat (F := F) c A).owesAt none t.castSucc := rfl

/-- Each call does what the pipeline asks of it. -/
theorem body_obl : Pipeline.BodyObligation (dat (F := F) c A) (defs₀ (F := F)) 𝒱₀ (none : HIx 1) Set.univ := fun t => by
  rw [bigSep_W1, bigSep_W1, owes_kept]
  simp only [found_0, found_1, found_2, found_3, found_4, found_5, found_6, found_7]
  iintro ⟨-, HO, ⟨%d0, Hx⟩, ⟨%d1, Hg⟩, ⟨%d2, Haw⟩, ⟨%d3, Hw⟩, ⟨%d4, Hwi⟩, ⟨%d5, Hbi⟩, ⟨%d6, Hwo⟩, ⟨%d7, Hbo⟩, ⟨%d8, Ho⟩⟩
  unfold owns
  icases Ho with ⟨%f, -, Ho⟩
  iapply (body_run (c := c) (b := bufsAt t) (X := blocksAt A t) (fo := f) (i := grid1.coords t) _)
  isplitl [Hx Hg Haw Hw Hwi Hbi Hwo Hbo Ho]
  · unfold Holds owns
    isplitl [Hx]; · iexact Hx
    isplitl [Hg]; · iexact Hg
    isplitl [Haw]; · iexact Haw
    isplitl [Hw]; · iexact Hw
    isplitl [Hwi]; · iexact Hwi
    isplitl [Hbi]; · iexact Hbi
    isplitl [Hwo]; · iexact Hwo
    isplitl [Hbo]; · iexact Hbo
    iexact Ho
  unfold Holds owns
  iintro ⟨Hx, Hg, Haw, Hw, Hwi, Hbi, Hwo, Hbo, Ho⟩
  isplitr; · iempintro
  isplitl [HO]; · iexact HO
  dsimp only [dat]
  isplitl [Hx]; · iexact Hx
  isplitl [Hg]; · iexact Hg
  isplitl [Haw]; · iexact Haw
  isplitl [Hw]; · iexact Hw
  isplitl [Hwi]; · iexact Hwi
  isplitl [Hbi]; · iexact Hbi
  isplitl [Hwo]; · iexact Hwo
  isplitl [Hbo]; · iexact Hbo
  iexists _; isplitr
  swap; · iexact Ho
  ipureintro
  exact read_halves (blocksAt A t) _ f

/-! ## The grid's run -/

variable (B : Dev nD → Valuation τ sig (Elt F))

/-- The proof data of the program's one grid. -/
def pdats : (p : Fin 1) → (c : Dev nD) → Pipeline.Dat τ (Elt F) (HIx 1) ℕ UU ℕ (Pipeline.pin (pcfgs (F := F)) adm p) c
  | 0, c => dat c (B c)

/-- What the core owes around the grid: nothing, with its early waits behind it. -/
def idle (c : Dev nD) : sProp 𝕄 := iprop(∃ W, ⌜(K (F := F)).WBelow (T c) W 8⌝ ∗ owes (T c) (0 : CellTallies nD τ sig (HIx 1)) W)

theorem idle_in (c : Dev nD) (t) : idle (F := F) c ⊢ (pdats B 0 c).owesAt (none : HIx 1) t := by
  unfold idle
  iintro ⟨%W, %hW, HO⟩
  iexists W; isplitr
  · ipureintro; exact fun p hp => Or.inl (hW p hp)
  iexact HO

theorem idle_out (c : Dev nD) (t) : (pdats B 0 c).owesAt (none : HIx 1) t ⊢ idle (F := F) c := by
  unfold idle
  iintro ⟨%W, %hW, HO⟩
  iexists W; isplitr
  · ipureintro
    intro p hp
    rcases hW hp with h | ⟨w, s, rfl⟩
    · exact h
    · exact Nat.zero_le _
  iexact HO

theorem arrays_at (c : Dev nD) (G : Valuation τ sig (Elt F)) (n : Nat)
    (hG : ∀ w, (pdats B 0 c).arrAt w n = G (Proc.devRef .tc (Pipeline.arrRef (Pipeline.pin (pcfgs (F := F)) adm 0).spec w))) :
    ((pdats B 0 c).arrays ((pdats B 0 c).arrAt · n) : sProp 𝕄) = held (c.tc : Thread nD τ) (Pipeline.arrRefs (pcfgs (F := F) 0).spec) G :=
  Pipeline.arrays_held (pcfgs (F := F)) adm (pdats B) 0 launch1.toP c
    (fun w => match w with | 0 => rfl | 1 => rfl | 2 => rfl | 3 => rfl | 4 => rfl | 5 => rfl | 6 => rfl | 7 => rfl | 8 => rfl | ⟨_ + 9, h⟩ => absurd h (Nat.not_lt.2 (Nat.le_add_left _ _)))
    _ G hG

/-- The arrays once the grid has run. -/
def left (c : Dev nD) : Valuation τ sig (Elt F) := Pipeline.afterRegion (dat c (B c)) (B c)

theorem arr_inj : Function.Injective (Pipeline.arrRef spec1) := launch1.win.arr_inj

/-- The grid as one step. -/
def grid : Pipeline.RegionSeg (pcfgs (F := F)) adm (pdats B) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obl c (B c)).loose
  hwaits c := by
    iintro -
    iapply (Pipeline.cellsWaits_of_owed_zero (Pipeline.pin (pcfgs (F := F)) adm) (pdats B) (none : HIx 1) 0 c (fun _ => rfl))
    iempintro
  pre c := iprop(held (c.tc : Thread nD τ) (Pipeline.arrRefs (pcfgs (F := F) 0).spec) (B c) ∗ idle c)
  post c := iprop(held (c.tc : Thread nD τ) (Pipeline.arrRefs (pcfgs (F := F) 0).spec) (left B c) ∗ idle c)
  X _ := iprop(emp)
  Y _ := iprop(emp)
  Z _ := iprop(emp)
  hentry c := by
    rw [arrays_at B c (B c) 0 (fun _ => rfl), Pipeline.ownSems0_none, Pipeline.prefHeld_of_none _ rfl]
    iintro ⟨⟨Ha, HO⟩, -, -⟩
    imodintro
    isplitl [Ha]; · iexact Ha
    isplitr; · iempintro
    isplitl [HO]
    · iapply (idle_in B c); iexact HO
    isplitr <;> iempintro
  hin c := by
    show _ ⊢ iprop(emp)
    iintro -
    iempintro
  hout c := by
    rw [Pipeline.ownSems0_none]
    iintro -
    isplitr; · iempintro
    isplitr; · iempintro
    iapply (Entails.of_eq (scopedRest1_eq c).symm)
    iempintro
  hexit c := by
    rw [arrays_at B c (left B c) _ (fun w => (Pipeline.afterRegion_arr (dat c (B c)) (B c) arr_inj w).symm)]
    iintro ⟨Ha, HO, -, -⟩
    imodintro
    isplitl [Ha]; · iexact Ha
    iapply (idle_out B c); iexact HO

theorem grid_pre (c : Dev nD) : (grid B).pre c = iprop(held (c.tc : Thread nD τ) (Pipeline.arrRefs (τ := τ) spec1) (B c) ∗ idle c) := rfl
theorem grid_post (c : Dev nD) : (grid B).post c = iprop(held (c.tc : Thread nD τ) (Pipeline.arrRefs (τ := τ) spec1) (left B c) ∗ idle c) := rfl

/-- The grid as the program without the SparseCore calls it. -/
abbrev enter : Prog (TpuEff nD τ sig (Elt F) (ΛP (F := F)) .tc) PUnit := .op (.customCall (Pipeline.entry 0) ()) fun x => .ret x

/-- From its nine arrays at known contents, the grid runs and leaves the result's array written. -/
theorem grid_run (c : Dev nD) (Q : PUnit → sProp 𝕄) :
    iprop((iprop(boundary (c.tc : Thread nD τ) ∗ held (c.tc : Thread nD τ) (Pipeline.arrRefs spec1) (left B c) ∗ idle c) -∗ Q ⟨⟩)
        ∗ boundary (c.tc : Thread nD τ) ∗ (held (c.tc : Thread nD τ) (Pipeline.arrRefs spec1) (B c) ∗ idle c)
        ∗ levAts (K (F := F)).L (K (F := F)).lev ∗ dealt (F := F) c)
      ⊢ wp frame (wpE ((K (F := F)).defs (D (F := F))) 𝒱 (T c) none) Set.univ
          (Prog.lift (.customCall (SparseCore.inner (Pipeline.entry 0)) ())) Q := by
  unfold dealt
  iintro ⟨HQ, Hb, Hpre, Hl, Hc, Ht⟩
  iapply ((K (F := F)).wp_liftProg (D (F := F)) 𝒱 (T c) Set.univ none enter Q)
  iapply (Pipeline.RegionSeg.wp (pcfgs (F := F)) adm (pdats B) (none : HIx 1) pinned_inj (EP (F := F)) defs₀ 𝒱₀ (K (F := F)).L (K (F := F)).lev
    (grid B) c none (fun _ h => nomatch h) (fun x => .ret x) Q)
  isplitl [HQ]
  · iintro ⟨Hb, Hpost⟩
    rw [wp_ret]
    imodintro
    iapply HQ
    isplitl [Hb]; · iexact Hb
    iapply (Entails.of_eq (grid_post B c)); iexact Hpost
  isplitl [Hb]; · iexact Hb
  isplitl [Hpre]
  · iapply (Entails.of_eq (grid_pre B c).symm); iexact Hpre
  isplitl [Hl]; · iexact Hl
  isplitl [Hc] <;> iassumption

end Cert.Proof.Gather

end
-- ==== Proof.Run.lean ====
/-
  The program's run: the host's operations, the gather, the host's operations after it, the grid, and what the arrays
  hold at the end.
-/
module

public import proofs.«01_k».proof.Proof.TcRegion
public import Idealize.ShloMosaic.Lib.Pipeline.RegionArraysS
public import Idealize.ShloMosaic.Lib.Pipeline.Frame

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held seq after)

variable {F : FTy → Type}
local notation "𝕄" => MG F

variable [FloatOps F]

/-- The host's operations before the gather: the table's rows of 384 as three rows of 128 each, and the numbers of the rows of 128. -/
abbrev hops : List (HloOp τ sig (Elt F)) :=
  [StableHlo.reshape main_arg0 main_v0 (rfl : (.f32 : EltTy) = .f32) shapeCasts_S4x128x128x384_S65536x384,
   StableHlo.nullary main_v1 (iotaInDim S4 32 0),
   StableHlo.nullary main_c (constantI S_ 32 16384#32),
   StableHlo.unary main_c main_v2 (broadcastInDim S4 ![] bcast_S_S4 : (⟨S_, .i32⟩ : BufTy).Contents (Elt F) → (⟨S4, .i32⟩ : BufTy).Contents (Elt F)),
   StableHlo.binary main_v1 main_v2 main_v3 (muli : (⟨S4, .i32⟩ : BufTy).Contents (Elt F) → (⟨S4, .i32⟩ : BufTy).Contents (Elt F) → (⟨S4, .i32⟩ : BufTy).Contents (Elt F)),
   StableHlo.unary main_v3 main_v4 (broadcastInDim S4x1x1 ![0] bcast_S4_S4x1x1_0 : (⟨S4, .i32⟩ : BufTy).Contents (Elt F) → (⟨S4x1x1, .i32⟩ : BufTy).Contents (Elt F)),
   StableHlo.unary main_v4 main_v5 (broadcastInDim S4x256x16 ![0, 1, 2] bcast_S4x1x1_S4x256x16_0_1_2 : (⟨S4x1x1, .i32⟩ : BufTy).Contents (Elt F) → (⟨S4x256x16, .i32⟩ : BufTy).Contents (Elt F)),
   StableHlo.binary main_arg2 main_v5 main_v6 (addi : (⟨S4x256x16, .i32⟩ : BufTy).Contents (Elt F) → (⟨S4x256x16, .i32⟩ : BufTy).Contents (Elt F) → (⟨S4x256x16, .i32⟩ : BufTy).Contents (Elt F)),
   StableHlo.reshape main_v6 main_v7 (rfl : (.i32 : EltTy) = .i32) shapeCasts_S4x256x16_S16384,
   StableHlo.reshape main_v0 main_v8 (rfl : (.f32 : EltTy) = .f32) shapeCasts_S65536x384_S196608x128,
   StableHlo.unary main_v7 main_v9 (broadcastInDim S16384x1 ![0] bcast_S16384_S16384x1_0 : (⟨S16384, .i32⟩ : BufTy).Contents (Elt F) → (⟨S16384x1, .i32⟩ : BufTy).Contents (Elt F)),
   StableHlo.nullary main_c_0 (constantI S_ 32 3#32),
   StableHlo.unary main_c_0 main_v10 (broadcastInDim S16384x1 ![] bcast_S_S16384x1 : (⟨S_, .i32⟩ : BufTy).Contents (Elt F) → (⟨S16384x1, .i32⟩ : BufTy).Contents (Elt F)),
   StableHlo.binary main_v9 main_v10 main_v11 (muli : (⟨S16384x1, .i32⟩ : BufTy).Contents (Elt F) → (⟨S16384x1, .i32⟩ : BufTy).Contents (Elt F) → (⟨S16384x1, .i32⟩ : BufTy).Contents (Elt F)),
   StableHlo.nullary main_v12 (iotaInDim S3 32 0),
   StableHlo.unary main_v12 main_v13 (broadcastInDim S1x3 ![1] bcast_S3_S1x3_1 : (⟨S3, .i32⟩ : BufTy).Contents (Elt F) → (⟨S1x3, .i32⟩ : BufTy).Contents (Elt F)),
   StableHlo.unary main_v11 main_v14 (broadcastInDim S16384x3 ![0, 1] bcast_S16384x1_S16384x3_0_1 : (⟨S16384x1, .i32⟩ : BufTy).Contents (Elt F) → (⟨S16384x3, .i32⟩ : BufTy).Contents (Elt F)),
   StableHlo.unary main_v13 main_v15 (broadcastInDim S16384x3 ![0, 1] bcast_S1x3_S16384x3_0_1 : (⟨S1x3, .i32⟩ : BufTy).Contents (Elt F) → (⟨S16384x3, .i32⟩ : BufTy).Contents (Elt F)),
   StableHlo.binary main_v14 main_v15 main_v16 (addi : (⟨S16384x3, .i32⟩ : BufTy).Contents (Elt F) → (⟨S16384x3, .i32⟩ : BufTy).Contents (Elt F) → (⟨S16384x3, .i32⟩ : BufTy).Contents (Elt F)),
   StableHlo.reshape main_v16 main_v17 (rfl : (.i32 : EltTy) = .i32) shapeCasts_S16384x3_S49152,
   StableHlo.reshape main_v17 main_v18 (rfl : (.i32 : EltTy) = .i32) shapeCasts_S49152_S1x49152]
/-- The buffers those operations write. -/
abbrev hostWrites : List (Ref sig .tc) := [main_v0, main_v1, main_c, main_v2, main_v3, main_v4, main_v5, main_v6, main_v7, main_v8, main_v9, main_c_0, main_v10, main_v11, main_v12, main_v13, main_v14, main_v15, main_v16, main_v17, main_v18]

/-- Those between the gather and the grid: the arguments as the grid's windows read them. -/
abbrev hops2 : List (HloOp τ sig (Elt F)) :=
  [StableHlo.reshape main_v19 main_v20 (rfl : (.f32 : EltTy) = .f32) shapeCasts_S49152x128_S4x16x16x16x384,
   StableHlo.reshape main_arg1 main_v21 (rfl : (.f32 : EltTy) = .f32) shapeCasts_S8x4x256x64x80_S8x4x16x16x64x80,
   StableHlo.reshape main_arg3 main_v22 (rfl : (.f32 : EltTy) = .f32) shapeCasts_S4x256x16_S4x16x16x16,
   StableHlo.unary main_v22 main_v23 ((transpose S4x16x16x16 [0, 2, 1, 3] · transposes_S4x16x16x16_S4x16x16x16_0_2_1_3) : (⟨S4x16x16x16, .f32⟩ : BufTy).Contents (Elt F) → (⟨S4x16x16x16, .f32⟩ : BufTy).Contents (Elt F)),
   StableHlo.reshape main_v23 main_v24 (rfl : (.f32 : EltTy) = .f32) shapeCasts_S4x16x16x16_S4x16x256x1,
   StableHlo.unary main_arg4 main_v25 ((transpose S384x384 [1, 0] · transposes_S384x384_S384x384_1_0) : (⟨S384x384, .f32⟩ : BufTy).Contents (Elt F) → (⟨S384x384, .f32⟩ : BufTy).Contents (Elt F)),
   StableHlo.unary main_v25 main_v26 ((truncf .bf16 · bitsLt_bf16_f32) : (⟨S384x384, .f32⟩ : BufTy).Contents (Elt F) → (⟨S384x384, .bf16⟩ : BufTy).Contents (Elt F)),
   StableHlo.reshape main_arg5 main_v27 (rfl : (.f32 : EltTy) = .f32) shapeCasts_S384_S1x384,
   StableHlo.unary main_arg6 main_v28 ((transpose S384x384 [1, 0] · transposes_S384x384_S384x384_1_0) : (⟨S384x384, .f32⟩ : BufTy).Contents (Elt F) → (⟨S384x384, .f32⟩ : BufTy).Contents (Elt F)),
   StableHlo.unary main_v28 main_v29 ((truncf .bf16 · bitsLt_bf16_f32) : (⟨S384x384, .f32⟩ : BufTy).Contents (Elt F) → (⟨S384x384, .bf16⟩ : BufTy).Contents (Elt F)),
   StableHlo.reshape main_arg7 main_v30 (rfl : (.f32 : EltTy) = .f32) shapeCasts_S384_S1x384]
abbrev hostWrites2 : List (Ref sig .tc) := [main_v20, main_v21, main_v22, main_v23, main_v24, main_v25, main_v26, main_v27, main_v28, main_v29, main_v30]

theorem main_eq (d : Dev nD) : main (F := F) d
    = (seq hops >>= fun _ => sc.run d 0 >>= fun _ => seq hops2 >>= fun _ => Prog.lift (.customCall (SparseCore.inner (Pipeline.entry 0)) ()) >>= fun _ => pure ⟨⟩) := rfl

section Run

variable (m : (ℓ : Loc nD τ sig) → Buf (Elt F) ℓ) (ρ : Dev nD → PrngReg)

abbrev tcRef (r : Ref sig .tc) : DevRef τ sig := Proc.devRef .tc r

/-- The arrays when the program starts, and when the gather does. -/
def V0 (d : Dev nD) : Valuation τ sig (Elt F) := fun b => m (d, b)
def V1 (d : Dev nD) : Valuation τ sig (Elt F) := after hops (V0 m d)
/-- The table, the row numbers, and the result before the gather. -/
def tab (d : Dev nD) : Buf (Elt F) (xLoc d) := V1 m d (tcRef main_v8)
def nums (d : Dev nD) : Buf (Elt F) (iLoc d) := V1 m d (tcRef main_v18)
def out0 (d : Dev nD) : Buf (Elt F) (oLoc d) := V1 m d (tcRef main_v19)
/-- The arrays after the gather, when the grid starts, and after the grid. -/
def V2 (d : Dev nD) : Valuation τ sig (Elt F) := Function.update (V1 m d) (tcRef main_v19) (gRows (tab m d) (nums m d))
def V3 (d : Dev nD) : Valuation τ sig (Elt F) := after hops2 (V2 m d)

theorem V1_kept (d : Dev nD) (r : Ref sig .tc) (h : r ∉ hostWrites) : V1 m d (tcRef r) = m ((SparseCore.T d).loc r) :=
  StableHlo.after_of_writes_sub hops _ (StableHlo.forall_writes_sub_of_map (W := hostWrites) rfl) h
theorem V2_out (d : Dev nD) : V2 m d (tcRef main_v19) = gRows (tab m d) (nums m d) := Function.update_self _ _ _
theorem V2_kept (d : Dev nD) (b : DevRef τ sig) (h : b ≠ tcRef main_v19) : V2 m d b = V1 m d b := Function.update_of_ne h _ _
theorem V3_kept (d : Dev nD) (r : Ref sig .tc) (h : r ∉ hostWrites2) : V3 m d (tcRef r) = V2 m d (tcRef r) :=
  StableHlo.after_of_writes_sub hops2 _ (StableHlo.forall_writes_sub_of_map (W := hostWrites2) rfl) h

/-- The arrays of the gather. -/
abbrev three : Finset (DevRef τ sig) := {tcRef main_v18, tcRef main_v19, tcRef main_v8}
theorem three_sub : three ⊆ Pipeline.ucRefs τ sig := by decide
theorem held_three (d : Dev nD) (W : Valuation τ sig (Elt F)) :
    (held (T d) three W : sProp 𝕄) = iprop((iLoc d ↦{fullShare} W (tcRef main_v18)) ∗ (oLoc d ↦{fullShare} W (tcRef main_v19))
      ∗ xLoc d ↦{fullShare} W (tcRef main_v8)) := by
  unfold held three
  rw [SparseCore.bigSep_insert' (by decide), SparseCore.bigSep_insert' (by decide), bigSep_singleton]

theorem hops_sub : ∀ op ∈ (hops : List (HloOp τ sig (Elt F))), op.bufs ⊆ Pipeline.ucRefs τ sig := fun op h =>
  Pipeline.sub_ucRefs op (by
    revert op h
    rw [← List.forall_iff_forall_mem]
    simp [hops])
theorem hops2_sub : ∀ op ∈ (hops2 : List (HloOp τ sig (Elt F))), op.bufs ⊆ Pipeline.ucRefs τ sig := fun op h =>
  Pipeline.sub_ucRefs op (by
    revert op h
    rw [← List.forall_iff_forall_mem]
    simp [hops2])
theorem hops_fresh : ∀ op ∈ (hops : List (HloOp τ sig (Elt F))), op.fresh = ∅ :=
  List.forall_iff_forall_mem.mp (StableHlo.forall_fresh_of_map rfl)
theorem hops2_fresh : ∀ op ∈ (hops2 : List (HloOp τ sig (Elt F))), op.fresh = ∅ :=
  List.forall_iff_forall_mem.mp (StableHlo.forall_fresh_of_map rfl)

theorem launch_held (d : Dev nD) : (unscopedBufs d (fun b => m ((SparseCore.T d).loc b)) : sProp 𝕄) = held (T d) (Pipeline.ucRefs τ sig) (V0 m d) :=
  Pipeline.unscopedBufs_held d (V0 m d)

/-- Before the gather its three arrays are taken out of all of them, and after it put back. -/
theorem before_call (d : Dev nD) : (held (d.tc : Thread nD τ) (Pipeline.ucRefs τ sig) (after hops (V0 m d)) : sProp 𝕄)
    = iprop(((iLoc d ↦{fullShare} nums m d) ∗ (oLoc d ↦{fullShare} out0 m d) ∗ xLoc d ↦{fullShare} tab m d) ∗ held (T d) (Pipeline.ucRefs τ sig \ three) (V1 m d)) :=
  (StableHlo.held_sub_split (T d) three_sub (V1 m d)).trans (by rw [held_three]; rfl)
theorem after_call (d : Dev nD) : (held (T d) (Pipeline.ucRefs τ sig) (V2 m d) : sProp 𝕄)
    = iprop(((iLoc d ↦{fullShare} nums m d) ∗ (oLoc d ↦{fullShare} gRows (tab m d) (nums m d)) ∗ xLoc d ↦{fullShare} tab m d)
        ∗ held (T d) (Pipeline.ucRefs τ sig \ three) (V1 m d)) := by
  rw [StableHlo.held_sub_split (T d) three_sub (V2 m d), held_three, V2_out, V2_kept m d (tcRef main_v18) (by decide), V2_kept m d (tcRef main_v8) (by decide),
    StableHlo.held_congr (T d) (V' := V1 m d) fun b hb => V2_kept m d b fun e => by subst e; exact absurd hb (by decide)]
  rfl

/-- Before the grid its nine arrays are taken out of all of them, and after it put back. -/
theorem arrs_sub : Pipeline.arrRefs (τ := τ) spec1 ⊆ Pipeline.ucRefs τ sig := Pipeline.arrRefs_sub_ucRefs spec1 launch1.win.arr_unscoped
theorem before_grid (d : Dev nD) : (held (d.tc : Thread nD τ) (Pipeline.ucRefs τ sig) (after hops2 (V2 m d)) : sProp 𝕄)
    = iprop(held (T d) (Pipeline.arrRefs spec1) (V3 m d) ∗ held (T d) (Pipeline.ucRefs τ sig \ Pipeline.arrRefs spec1) (V3 m d)) :=
  StableHlo.held_sub_split (T d) arrs_sub (V3 m d)

variable [∀ e, Nonempty (Elt F e)]

/-- The arrays at the end. -/
def VE (d : Dev nD) : Valuation τ sig (Elt F) := left (V3 m) d

theorem after_grid (d : Dev nD) : (held (T d) (Pipeline.ucRefs τ sig) (VE m d) : sProp 𝕄)
    = iprop(held (T d) (Pipeline.arrRefs spec1) (left (V3 m) d) ∗ held (T d) (Pipeline.ucRefs τ sig \ Pipeline.arrRefs spec1) (V3 m d)) := by
  rw [StableHlo.held_sub_split (T d) arrs_sub (VE m d),
    StableHlo.held_congr (T d) (S := Pipeline.ucRefs τ sig \ Pipeline.arrRefs spec1) (V := VE m d) (V' := V3 m d)
      (Pipeline.afterRegion_off (dat d (V3 m d)) (V3 m d) (Pipeline.ucRefs τ sig))]
  rfl

/-- The result and the eight arguments. -/
abbrev nine : Finset (DevRef τ sig) :=
  {tcRef main_v31, tcRef main_arg0, tcRef main_arg1, tcRef main_arg2, tcRef main_arg3, tcRef main_arg4, tcRef main_arg5, tcRef main_arg6, tcRef main_arg7}
theorem nine_sub : nine ⊆ Pipeline.ucRefs τ sig := by decide

/-- An array that neither the host nor the grid writes is at the end what it was at the start. -/
theorem VE_kept (d : Dev nD) (r : Ref sig .tc) (h1 : r ∉ hostWrites) (h2 : r ∉ hostWrites2) (h : tcRef r ≠ tcRef main_v19)
    (ho : ∀ w, Pipeline.arrRef spec1 w = r → (cfg1.win w).isOut = false) : VE m d (tcRef r) = m ((SparseCore.T d).loc r) :=
  (Pipeline.afterRegion_keeps (dat d (V3 m d)) (V3 m d) arr_inj (fun _ => rfl) r ho).trans
    ((V3_kept m d r h2).trans ((V2_kept m d _ h).trans (V1_kept m d r h1)))

/-- What the program leaves. -/
def FIN (d : Dev nD) : sProp 𝕄 := held (T d) nine (VE m d)

abbrev PP : (K (F := F)).Pay (nD := nD) (Val := Elt F) (Name := ℕ) (U := UU) := P (tab m) (nums m) (out0 m)

omit [∀ e, Nonempty (Elt F e)] in
/-- After its last call the core owes nothing. -/
theorem owes_idle (d : Dev nD) :
    (iprop(∃ W, ⌜(K (F := F)).WBelow (T d) W (8 * SparseCore.Cfg.Blocks.fst (Q := 1) (N := 1) ((0 : Fin 1).val + 1))⌝ ∗ owes (T d) ((K (F := F)).Otc d ((0 : Fin 1).val + 1)) W) : sProp 𝕄)
      = idle d := by
  rw [(K (F := F)).Otc_end d (n := (0 : Fin 1).val + 1) (le_refl 1)]
  rfl

theorem hmain (κ : GSem nD τ sig → ℕ) (d : Dev nD) :
    iprop((K (F := F)).ctx EH (PP m) κ ∗ (K (F := F)).tcSt EH d 0 ∗ (K (F := F)).tcRes m ρ d ∗ dealt (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held, main_eq]
  iintro ⟨#Hctx, Hst, ⟨Hb, Hheld, Hts, -⟩, Hd⟩
  iapply (StableHlo.wp_seq (defs := (K (F := F)).defs (D (F := F))) 𝒱 none Set.univ d (Pipeline.ucRefs τ sig) _ hops hops_sub hops_fresh (V0 m d)) $$ [Hb Hheld]
  · isplitl [Hb] <;> iassumption
  iintro ⟨Hb, Hheld⟩
  ihave Hh := (Entails.of_eq (before_call m d)) $$ Hheld
  icases Hh with ⟨⟨Hi, Ho, Hx⟩, Hrest⟩
  irw [wp_bind]
  iapply ((K (F := F)).wp_run (D (F := F)) 𝒱 (EH := EH) (P := PP m) κ d 0) $$ [Hst Hi Hx Ho Hrest Hb Hts Hd]
  isplitr; · iexact Hctx
  isplitl [Hst]; · iexact Hst
  isplitl [Hi Hx Ho]
  · iapply (Entails.of_eq (takes (tab m) (nums m) (out0 m) d))
    isplitl [Hi]; · iexact Hi
    isplitl [Ho]; · iexact Ho
    iexact Hx
  iintro ⟨Hst, Hdn⟩
  ihave Hdn' := (Entails.of_eq (brings (tab m) (nums m) (out0 m) d).symm) $$ Hdn
  icases Hdn' with ⟨Hi, Ho, Hx⟩
  ihave Hheld := (Entails.of_eq (after_call m d).symm) $$ [Hi Ho Hx Hrest]
  · isplitl [Hi Ho Hx]
    · isplitl [Hi]; · iexact Hi
      isplitl [Ho]; · iexact Ho
      iexact Hx
    iexact Hrest
  iapply (StableHlo.wp_seq (defs := (K (F := F)).defs (D (F := F))) 𝒱 none Set.univ d (Pipeline.ucRefs τ sig) _ hops2 hops2_sub hops2_fresh (V2 m d)) $$ [Hb Hheld]
  · isplitl [Hb] <;> iassumption
  iintro ⟨Hb, Hheld⟩
  ihave Hh := (Entails.of_eq (before_grid m d)) $$ Hheld
  icases Hh with ⟨Harr, Hrest⟩
  ihave Hlev := (SparseCore.Cfg.ctx_levAts (K := K (F := F)) (P := PP m) κ) $$ Hctx
  unfold SparseCore.Cfg.tcSt
  icases Hst with ⟨HO, Hst⟩
  ihave Hidle := (Entails.of_eq (owes_idle d)) $$ HO
  irw [wp_bind]
  iapply (grid_run (V3 m) d _)
  isplitl [Hst Hrest Hts]
  · iintro ⟨Hb, Harr, Hidle⟩
    rw [wp_pure]
    imodintro
    ihave HO := (Entails.of_eq (owes_idle (F := F) d).symm) $$ Hidle
    ihave Hheld := (Entails.of_eq (after_grid m d).symm) $$ [Harr Hrest]
    · isplitl [Harr]; · iexact Harr
      iexact Hrest
    ihave Hn := (Entails.of_eq (StableHlo.held_sub_split (T d) nine_sub (VE m d))) $$ Hheld
    icases Hn with ⟨Hn, -⟩
    isplitl [HO Hst]
    · isplitl [HO]; · iexact HO
      iexact Hst
    isplitl [Hn]
    · unfold FIN; iexact Hn
    isplitl [Hb] <;> iassumption
  isplitl [Hb]; · iexact Hb
  isplitl [Harr Hidle]
  · isplitl [Harr]; · iexact Harr
    iexact Hidle
  isplitl [Hlev]; · iexact Hlev
  iexact Hd

def fq (d : Dev nD) (s' : Phys nD τ sig (Elt F)) : Prop := ∀ b ∈ nine, s'.mem.mem (d, b) = VE m d b

theorem agree {ℓ : Loc nD τ sig} {f : Buf (Elt F) ℓ} {s' : Phys nD τ sig (Elt F)} :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

/-- Arrays held at `W` are in the memory what `W` says. -/
theorem agree_held (d : Dev nD) (W : Valuation τ sig (Elt F)) (s' : Phys nD τ sig (Elt F)) (S : Finset (DevRef τ sig)) :
    iprop(SI s' ∗ held (T d) S W) ⊢ (iprop(⌜∀ b ∈ S, s'.mem.mem (d, b) = W b⌝ ∗ SI s') : sProp 𝕄) := by
  classical
  induction S using Finset.induction_on with
  | empty =>
      iintro ⟨HSI, -⟩
      isplitr
      · ipureintro; exact fun b h => absurd h (Finset.notMem_empty b)
      iexact HSI
  | insert b S hb ih =>
      unfold held at ih ⊢
      rw [SparseCore.bigSep_insert' hb]
      iintro ⟨HSI, Hb, HS⟩
      ihave H := ih $$ [HSI HS]
      · isplitl [HSI] <;> iassumption
      icases H with ⟨%h, HSI⟩
      ihave H := (agree (F := F) (ℓ := (d, b)) (f := W b) (s' := s')) $$ [HSI Hb]
      · isplitl [HSI]; · iexact HSI
        iexact Hb
      icases H with ⟨%h', HSI⟩
      isplitr
      · ipureintro
        intro b' hb'
        rcases Finset.mem_insert.mp hb' with rfl | hb'
        · exact h'
        · exact h b' hb'
      iexact HSI

theorem hfin (d : Dev nD) (s' : Phys nD τ sig (Elt F)) : iprop(FIN m d ∗ SI s') ⊢ (⌜fq m d s'⌝ : sProp 𝕄) := by
  unfold FIN
  iintro ⟨Hn, HSI⟩
  ihave H := (agree_held d (VE m d) s' nine) $$ [HSI Hn]
  · isplitl [HSI] <;> iassumption
  icases H with ⟨%h, -⟩
  ipureintro; exact h

/-- What the run leaves of the memory. -/
def QC : PUnit × MemSt nD τ sig (Elt F) → Prop := fun r =>
  (∀ c : Dev nD, ∀ b ∈ nine, r.2.mem (c, b) = VE m c b) ∧ r.2.sem = fun _ => 0

theorem run_main (hpre : ∀ d, InRange (F := F) (nums m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (tab m) (nums m) (out0 m) hpre)
    (fun q _ => match q with | 0 => SparseCore.Cfg.VecSplit.of_plain (vecSplit (tab m) (nums m) (out0 m)))
    m ρ main (fun d => dealt (F := F) d) (FIN m) (u₀ (F := F)) (sep_elim_left.trans (hu₀ (tab m) (nums m) (out0 m))) (hmain m ρ) (fq m) (hfin m) (QC m)
    (fun _ h hz => ⟨h, hz⟩)

end Run

end Cert.Proof.Gather

end
-- ==== Proof.Half.lean ====
/-
  A call's block read element by element over exact numbers: the projected rows, a group's 80 rows, what its heads make
  of them, and the half of the block that comes out.
-/
module

public import proofs.«01_k».proof.Proof.TcGrid
public import Idealize.ShloMosaic.Lib.Pointwise

@[expose] public section

noncomputable section

namespace Cert.Proof.Gather

open Cert.KernelIdeal Cert.KernelIdeal.Gen
open Idealize.ShloMosaic

variable (X : Blocks Ideal)

theorem wiV_apply (k v : Fin 384) : wiV X (ix2 k v) = X.wi (ix2 k v) := by
  pointwise [wiV]

theorem woV_apply (k v : Fin 384) : woV X (ix2 k v) = X.wo (ix2 k v) := by
  pointwise [woV]

theorem biV_apply (v : Fin 384) : biV X (ix2 0 v) = X.bi (ix2 0 v) := by
  pointwise [biV]

theorem boV_apply (v : Fin 384) : boV X (ix2 0 v) = X.bo (ix2 0 v) := by
  pointwise [boV]

/-- Rows times a matrix plus a row, at an element. -/
theorem dense_apply (L : FVec Ideal S1024x384 .f32) (W : FVec Ideal S384x384 .bf16) (B : FVec Ideal S1x384 .f32) (r : Fin 1024) (v : Fin 384) :
    (truncf .bf16 (addf (matmul dot_S1024x384_S384x384_S1024x384_1_0_0_1_n_n none (truncf .bf16 L bitsLt_bf16_f32) W (constant S1024x384 .f32 0x00000000#32))
      (broadcastTo S1024x384 B broadcasts_S1x384_S1024x384)) bitsLt_bf16_f32 : FVec Ideal S1024x384 .bf16) (ix2 r v)
    = (∑ k : Fin 384, (L (ix2 r k) : EReal) * (W (ix2 k v) : EReal)) + (B (ix2 0 v) : EReal) := by
  pointwise

theorem ld_x (db : Fin 2) (i : Fin 128) (s : Fin 8) (k : Fin 384) : View.ld X.x (rX db) (ix4 0 i s k) = X.x (ix4 db i s k) := by
  pointwise

theorem cast_x (Y : FVec Ideal S1x128x8x384 .f32) (r : Fin 1024) (k : Fin 384) :
    (shapeCast S1024x384 (shapeCast S128x8x384 Y shapeCasts_S1x128x8x384_S128x8x384 : FVec Ideal S128x8x384 .f32)
      shapeCasts_S128x8x384_S1024x384 : FVec Ideal S1024x384 .f32) (ix2 r k) = Y (ix4 0 ⟨r.val / 8, by omega⟩ ⟨r.val % 8, by omega⟩ k) := by
  pointwise

theorem flat_x (db : Fin 2) (r : Fin 1024) (k : Fin 384) :
    (shapeCast S1024x384 (shapeCast S128x8x384 (View.ld X.x (rX db)) shapeCasts_S1x128x8x384_S128x8x384 : FVec Ideal S128x8x384 .f32)
      shapeCasts_S128x8x384_S1024x384 : FVec Ideal S1024x384 .f32) (ix2 r k) = X.x (ix4 db ⟨r.val / 8, by omega⟩ ⟨r.val % 8, by omega⟩ k) :=
  (cast_x (View.ld X.x (rX db)) r k).trans (ld_x X db _ _ k)

theorem xp_apply (db : Fin 2) (r : Fin 1024) (v : Fin 384) : xp X db (ix2 r v)
    = (∑ k : Fin 384, (X.x (ix4 db ⟨r.val / 8, by omega⟩ ⟨r.val % 8, by omega⟩ k) : EReal) * (X.wi (ix2 k v) : EReal)) + (X.bi (ix2 0 v) : EReal) := by
  unfold xp
  rw [dense_apply, biV_apply]
  refine congrArg (fun z : EReal => z + X.bi (ix2 0 v)) (Finset.sum_congr rfl fun k _ => ?_)
  rw [flat_x, wiV_apply]

theorem dense_scaled_apply (L : FVec Ideal S256x384 .f32) (W : FVec Ideal S384x384 .bf16) (B : FVec Ideal S1x384 .f32) (C : FVec Ideal S256x1 .f32) (r : Fin 256) (v : Fin 384) :
    (truncf .bf16 (mulf (addf (matmul dot_S256x384_S384x384_S256x384_1_0_0_1_n_n none (truncf .bf16 L bitsLt_bf16_f32) W (constant S256x384 .f32 0x00000000#32))
      (broadcastTo S256x384 B broadcasts_S1x384_S256x384)) (broadcastTo S256x384 C broadcasts_S256x1_S256x384)) bitsLt_bf16_f32 : FVec Ideal S256x384 .bf16) (ix2 r v)
    = ((∑ k : Fin 384, (L (ix2 r k) : EReal) * (W (ix2 k v) : EReal)) + (B (ix2 0 v) : EReal)) * (C (ix2 r 0) : EReal) := by
  pointwise

theorem ld_g (db : Fin 2) (i s : Fin 16) (k : Fin 384) : View.ld X.g (rG db) (ix5 0 i 0 s k) = X.g (ix5 db i 0 s k) := by
  pointwise

theorem cast_g (Y : FVec Ideal S1x16x1x16x384 .f32) (r : Fin 256) (k : Fin 384) :
    (shapeCast S256x384 (shapeCast S16x1x16x384 Y shapeCasts_S1x16x1x16x384_S16x1x16x384 : FVec Ideal S16x1x16x384 .f32)
      shapeCasts_S16x1x16x384_S256x384 : FVec Ideal S256x384 .f32) (ix2 r k) = Y (ix5 0 ⟨r.val / 16, by omega⟩ 0 ⟨r.val % 16, by omega⟩ k) := by
  pointwise

theorem flat_g (db : Fin 2) (r : Fin 256) (k : Fin 384) :
    (shapeCast S256x384 (shapeCast S16x1x16x384 (View.ld X.g (rG db)) shapeCasts_S1x16x1x16x384_S16x1x16x384 : FVec Ideal S16x1x16x384 .f32)
      shapeCasts_S16x1x16x384_S256x384 : FVec Ideal S256x384 .f32) (ix2 r k) = X.g (ix5 db ⟨r.val / 16, by omega⟩ 0 ⟨r.val % 16, by omega⟩ k) :=
  (cast_g (View.ld X.g (rG db)) r k).trans (ld_g X db _ _ k)

theorem flat_w (db : Fin 2) (r : Fin 256) :
    (shapeCast S256x1 (View.ld X.w (rW db)) shapeCasts_S1x1x256x1_S256x1 : FVec Ideal S256x1 .f32) (ix2 r 0) = X.w (ix4 db 0 r 0) := by
  pointwise

theorem gp_apply (db : Fin 2) (r : Fin 256) (v : Fin 384) : gp X db (ix2 r v)
    = ((∑ k : Fin 384, (X.g (ix5 db ⟨r.val / 16, by omega⟩ 0 ⟨r.val % 16, by omega⟩ k) : EReal) * (X.wi (ix2 k v) : EReal)) + (X.bi (ix2 0 v) : EReal))
      * (X.w (ix4 db 0 r 0) : EReal) := by
  unfold gp
  rw [dense_scaled_apply, biV_apply, flat_w]
  refine congrArg (fun z : EReal => (z + X.bi (ix2 0 v)) * X.w (ix4 db 0 r 0)) (Finset.sum_congr rfl fun k _ => ?_)
  rw [flat_g, wiV_apply]

theorem att_apply (db : Fin 2) (bh : Fin 16) (h : Fin 8) (p : Fin 64) (k : Fin 80) : att X db bh h (ix2 p k) = X.aw (ix6 h db bh 0 p k) := by
  pointwise [att, att0, raw]

theorem xs_apply (db : Fin 2) (bh : Fin 16) (k : Fin 64) (v : Fin 384) : xs X db bh (ix2 k v) = xp X db (ix2 ⟨64 * bh.val + k.val, by omega⟩ v) := by
  pointwise [xs]

theorem gs_apply (db : Fin 2) (bh : Fin 16) (k : Fin 16) (v : Fin 384) : gs X db bh (ix2 k v) = gp X db (ix2 ⟨16 * bh.val + k.val, by omega⟩ v) := by
  pointwise [gs]

theorem vcat_apply (db : Fin 2) (bh : Fin 16) (k : Fin 80) (v : Fin 384) : vcat X db bh (ix2 k v)
    = if h : k.val < 64 then xs X db bh (ix2 ⟨k.val, h⟩ v) else gs X db bh (ix2 ⟨k.val - 64, by omega⟩ v) := by
  pointwise [vcat]

theorem vh_apply (db : Fin 2) (bh : Fin 16) (h : Fin 8) (k : Fin 80) (e : Fin 48) :
    vh X db bh h (ix2 k e) = vcat X db bh (ix2 k ⟨48 * h.val + e.val, by omega⟩) := by
  pointwise [vh]

theorem hd_apply (db : Fin 2) (bh : Fin 16) (h : Fin 8) (p : Fin 64) (e : Fin 48) : hd X db bh h (ix2 p e)
    = ∑ k : Fin 80, (att X db bh h (ix2 p k) : EReal) * (vh X db bh h (ix2 k e) : EReal) := by
  pointwise [hd, zero48]

/-- The heads side by side: column `v` is head `v / 48`'s column `v % 48`. -/
theorem obs_apply (db : Fin 2) (bh : Fin 16) (p : Fin 64) (v : Fin 384) :
    obs X db bh (ix2 p v) = hd X db bh ⟨v.val / 48, by omega⟩ (ix2 p ⟨v.val % 48, by omega⟩) :=
  concatenate_ofFn_apply (t := S64x384) (s₁ := S64x48) 1 (fun h : Fin 8 => hd X db bh h) concatenates_S64x48_S64x48_S64x48_S64x48_S64x48_S64x48_S64x48_S64x48_S64x384_d1
    rfl 48 rfl (ix2 p v) ⟨v.val / 48, by omega⟩ rfl (ix2 p ⟨v.val % 48, by omega⟩) rfl
    (fun a ha => match a with | ⟨0, _⟩ => rfl | ⟨1, _⟩ => absurd rfl ha)

/-- What the last product reads: the groups one above the other. -/
def stacked (db : Fin 2) : FVec Ideal S1024x384 .bf16 :=
  concatenate S1024x384 0 (List.ofFn fun n : Fin 16 => (⟨S64x384, obs X db n⟩ : (s : Shape) × (s.Idx → Elt Ideal .bf16)))
    concatenates_S64x384_S64x384_S64x384_S64x384_S64x384_S64x384_S64x384_S64x384_S64x384_S64x384_S64x384_S64x384_S64x384_S64x384_S64x384_S64x384_S1024x384_d0

theorem stacked_apply (db : Fin 2) (r : Fin 1024) (v : Fin 384) :
    stacked X db (ix2 r v) = obs X db ⟨r.val / 64, by omega⟩ (ix2 ⟨r.val % 64, by omega⟩ v) :=
  concatenate_ofFn_apply (t := S1024x384) (s₁ := S64x384) 0 (fun n : Fin 16 => obs X db n)
    concatenates_S64x384_S64x384_S64x384_S64x384_S64x384_S64x384_S64x384_S64x384_S64x384_S64x384_S64x384_S64x384_S64x384_S64x384_S64x384_S64x384_S1024x384_d0
    rfl 64 rfl (ix2 r v) ⟨r.val / 64, by omega⟩ rfl (ix2 ⟨r.val % 64, by omega⟩ v) rfl
    (fun a ha => match a with | ⟨0, _⟩ => absurd rfl ha | ⟨1, _⟩ => rfl)

theorem dense_out_apply (L : FVec Ideal S1024x384 .bf16) (W : FVec Ideal S384x384 .bf16) (B : FVec Ideal S1x384 .f32) (i : Fin 128) (s : Fin 8) (e : Fin 384) :
    (shapeCast S128x8x384 (addf (matmul dot_S1024x384_S384x384_S1024x384_1_0_0_1_n_n none L W (constant S1024x384 .f32 0x00000000#32))
      (broadcastTo S1024x384 B broadcasts_S1x384_S1024x384) : FVec Ideal S1024x384 .f32) shapeCasts_S1024x384_S128x8x384 : FVec Ideal S128x8x384 .f32) (ix3 i s e)
    = (∑ v : Fin 384, (L (ix2 ⟨i.val * 8 + s.val, by omega⟩ v) : EReal) * (W (ix2 v e) : EReal)) + (B (ix2 0 e) : EReal) := by
  pointwise

theorem half_eq (db : Fin 2) : half X db
    = shapeCast S128x8x384 (addf (matmul dot_S1024x384_S384x384_S1024x384_1_0_0_1_n_n none (stacked X db) (woV X) (constant S1024x384 .f32 0x00000000#32))
      (broadcastTo S1024x384 (boV X) broadcasts_S1x384_S1024x384)) shapeCasts_S1024x384_S128x8x384 := rfl

theorem half_apply (db : Fin 2) (i : Fin 128) (s : Fin 8) (e : Fin 384) : half X db (ix3 i s e)
    = (∑ v : Fin 384, (obs X db ⟨i.val / 8, by omega⟩ (ix2 ⟨i.val % 8 * 8 + s.val, by omega⟩ v) : EReal) * (X.wo (ix2 v e) : EReal)) + (X.bo (ix2 0 e) : EReal) := by
  rw [half_eq, dense_out_apply, boV_apply]
  refine congrArg (fun z : EReal => z + X.bo (ix2 0 e)) (Finset.sum_congr rfl fun v _ => ?_)
  rw [stacked_apply, woV_apply]
  have h1 : (⟨(⟨i.val * 8 + s.val, by omega⟩ : Fin 1024).val / 64, by omega⟩ : Fin 16) = ⟨i.val / 8, by omega⟩ := Fin.ext (by show (i.val * 8 + s.val) / 64 = i.val / 8; omega)
  have h2 : (⟨(⟨i.val * 8 + s.val, by omega⟩ : Fin 1024).val % 64, by omega⟩ : Fin 64) = ⟨i.val % 8 * 8 + s.val, by omega⟩ :=
    Fin.ext (by show (i.val * 8 + s.val) % 64 = i.val % 8 * 8 + s.val; omega)
  rw [h1, h2]

theorem slab_apply (db : Fin 2) (i : Fin 128) (s : Fin 8) (e : Fin 384) : slab X db (ix4 0 i s e) = half X db (ix3 i s e) := by
  pointwise [slab]

theorem outV_apply (db : Fin 2) (i : Fin 128) (s : Fin 8) (e : Fin 384) : outV X (ix4 db i s e) = half X db (ix3 i s e) := by
  have hq : ∀ db : Fin 2, ∀ x : S1x128x8x384.Idx, slab X db x = half X ((rX db).emb x 0) (ix3 ((rX db).emb x 1) ((rX db).emb x 2) ((rX db).emb x 3)) := by
    intro db x
    obtain ⟨a, i, s, e, rfl⟩ : ∃ (a : Fin 1) (i : Fin 128) (s : Fin 8) (e : Fin 384), x = ix4 a i s e := ⟨_, _, _, _, eq_ix4 x⟩
    obtain rfl : a = 0 := Subsingleton.elim _ _
    refine (slab_apply X db i s e).trans ?_
    have h0 : (rX db).emb (ix4 0 i s e) 0 = db := Fin.ext (by rw [Rect.emb_apply]; rfl)
    have h1 : (rX db).emb (ix4 0 i s e) 1 = i := Fin.ext (by rw [Rect.emb_apply]; show 0 + 1 * i.val = i.val; omega)
    have h2 : (rX db).emb (ix4 0 i s e) 2 = s := Fin.ext (by rw [Rect.emb_apply]; show 0 + 1 * s.val = s.val; omega)
    have h3 : (rX db).emb (ix4 0 i s e) 3 = e := Fin.ext (by rw [Rect.emb_apply]; show 0 + 1 * e.val = e.val; omega)
    rw [h0, h1, h2, h3]
  exact View.canon_apply_of_pieces (fun y : S2x128x8x384.Idx => half X (y 0) (ix3 (y 1) (y 2) (y 3))) _
    (fun p hp x => by
      rcases List.mem_cons.mp hp with rfl | hp
      · exact hq 1 x
      · rcases List.mem_singleton.mp hp with rfl
        exact hq 0 x) (ix4 db i s e) (halves_cover X _)

/-- The block a call leaves, element by element. -/
theorem outV_sum (db : Fin 2) (i : Fin 128) (s : Fin 8) (e : Fin 384) : outV X (ix4 db i s e)
    = (∑ v : Fin 384, (∑ k : Fin 80, (X.aw (ix6 ⟨v.val / 48, by omega⟩ db ⟨i.val / 8, by omega⟩ 0 ⟨i.val % 8 * 8 + s.val, by omega⟩ k) : EReal)
        * (vcat X db ⟨i.val / 8, by omega⟩ (ix2 k v) : EReal)) * (X.wo (ix2 v e) : EReal)) + (X.bo (ix2 0 e) : EReal) := by
  rw [outV_apply, half_apply]
  refine congrArg (fun z : EReal => z + X.bo (ix2 0 e)) (Finset.sum_congr rfl fun v _ => congrArg (fun z : EReal => z * X.wo (ix2 v e)) ?_)
  rw [obs_apply, hd_apply]
  refine Finset.sum_congr rfl fun k _ => ?_
  rw [att_apply, vh_apply]
  have hv : (⟨48 * (⟨v.val / 48, by omega⟩ : Fin 8).val + (⟨v.val % 48, by omega⟩ : Fin 48).val, by show 48 * (v.val / 48) + v.val % 48 < 384; omega⟩ : Fin 384) = v :=
    Fin.ext (by show 48 * (v.val / 48) + v.val % 48 = v.val; omega)
  rw [hv]

end Cert.Proof.Gather

end
-- ==== Proof.Final.lean ====
/-
  The arrays the grid reads and writes, element by element: where a point's blocks lie, and what the result's array holds
  when the grid has ended.
-/
module

public import proofs.«01_k».proof.Proof.Run
public import proofs.«01_k».proof.Proof.Half

@[expose] public section

noncomputable section

namespace Cert.Proof.Gather

open Cert.KernelIdeal Cert.KernelIdeal.Gen
open Idealize.ShloMosaic

variable (A : Valuation τ sig (Elt Ideal)) (t : Fin cfg1.N)

theorem index_0 : ∀ t : Fin cfg1.N, ∀ a, (cfg1.win 0).index t a = ![t.val / 16, 0, t.val % 16, 0] a := by decide
theorem index_1 : ∀ t : Fin cfg1.N, ∀ a, (cfg1.win 1).index t a = ![t.val / 16, 0, t.val % 16, 0, 0] a := by decide
theorem index_2 : ∀ t : Fin cfg1.N, ∀ a, (cfg1.win 2).index t a = ![0, t.val / 16, 0, t.val % 16, 0, 0] a := by decide
theorem index_3 : ∀ t : Fin cfg1.N, ∀ a, (cfg1.win 3).index t a = ![t.val / 16, t.val % 16, 0, 0] a := by decide
theorem index_4 : ∀ t : Fin cfg1.N, ∀ a, (cfg1.win 4).index t a = 0 := by decide
theorem index_5 : ∀ t : Fin cfg1.N, ∀ a, (cfg1.win 5).index t a = 0 := by decide
theorem index_6 : ∀ t : Fin cfg1.N, ∀ a, (cfg1.win 6).index t a = 0 := by decide
theorem index_7 : ∀ t : Fin cfg1.N, ∀ a, (cfg1.win 7).index t a = 0 := by decide
theorem index_8 : ∀ t : Fin cfg1.N, ∀ a, (cfg1.win 8).index t a = ![t.val / 16, 0, t.val % 16, 0] a := by decide

theorem image_lt (db : Fin 2) : 2 * (t.val / 16) + db.val < 4 := by have : t.val < 32 := t.isLt; omega
theorem column_lt (s : Fin 8) : 8 * (t.val % 16) + s.val < 128 := by omega

/-- The nine arrays. -/
def aX : S4x128x128x384.Idx → EReal := A (tcRef main_arg0)
def aG : S4x16x16x16x384.Idx → EReal := A (tcRef main_v20)
def aA : S8x4x16x16x64x80.Idx → EReal := A (tcRef main_v21)
def aW : S4x16x256x1.Idx → EReal := A (tcRef main_v24)
def aWi : S384x384.Idx → EReal := A (tcRef main_v26)
def aBi : S1x384.Idx → EReal := A (tcRef main_v27)
def aWo : S384x384.Idx → EReal := A (tcRef main_v29)
def aBo : S1x384.Idx → EReal := A (tcRef main_v30)

theorem blk_x (db : Fin 2) (i : Fin 128) (s : Fin 8) (k : Fin 384) :
    (blocksAt A t).x (ix4 db i s k) = aX A (ix4 ⟨2 * (t.val / 16) + db.val, image_lt t db⟩ i ⟨8 * (t.val % 16) + s.val, column_lt t s⟩ k) := by
  refine congrArg (aX A) (funext fun a => Fin.ext ?_)
  have he := (cfg1.win 0).rect_emb_val t (ix4 db i s k) a
  rw [index_0] at he
  refine Eq.trans he ?_
  match a with
  | ⟨0, _⟩ => show t.val / 16 * 2 + db.val = 2 * (t.val / 16) + db.val; omega
  | ⟨1, _⟩ => show 0 * 128 + i.val = i.val; omega
  | ⟨2, _⟩ => show t.val % 16 * 8 + s.val = 8 * (t.val % 16) + s.val; omega
  | ⟨3, _⟩ => show 0 * 384 + k.val = k.val; omega

theorem blk_g (db : Fin 2) (i : Fin 16) (s : Fin 16) (k : Fin 384) :
    (blocksAt A t).g (ix5 db i 0 s k) = aG A (ix5 ⟨2 * (t.val / 16) + db.val, image_lt t db⟩ i ⟨t.val % 16, Nat.mod_lt _ (by decide)⟩ s k) := by
  refine congrArg (aG A) (funext fun a => Fin.ext ?_)
  have he := (cfg1.win 1).rect_emb_val t (ix5 db i 0 s k) a
  rw [index_1] at he
  refine Eq.trans he ?_
  match a with
  | ⟨0, _⟩ => show t.val / 16 * 2 + db.val = 2 * (t.val / 16) + db.val; omega
  | ⟨1, _⟩ => show 0 * 16 + i.val = i.val; omega
  | ⟨2, _⟩ => show t.val % 16 * 1 + (0 : Fin 1).val = t.val % 16; omega
  | ⟨3, _⟩ => show 0 * 16 + s.val = s.val; omega
  | ⟨4, _⟩ => show 0 * 384 + k.val = k.val; omega

theorem blk_aw (h : Fin 8) (db : Fin 2) (i : Fin 16) (p : Fin 64) (k : Fin 80) :
    (blocksAt A t).aw (ix6 h db i 0 p k) = aA A (ix6 h ⟨2 * (t.val / 16) + db.val, image_lt t db⟩ i ⟨t.val % 16, Nat.mod_lt _ (by decide)⟩ p k) := by
  refine congrArg (aA A) (funext fun a => Fin.ext ?_)
  have he := (cfg1.win 2).rect_emb_val t (ix6 h db i 0 p k) a
  rw [index_2] at he
  refine Eq.trans he ?_
  match a with
  | ⟨0, _⟩ => show 0 * 8 + h.val = h.val; omega
  | ⟨1, _⟩ => show t.val / 16 * 2 + db.val = 2 * (t.val / 16) + db.val; omega
  | ⟨2, _⟩ => show 0 * 16 + i.val = i.val; omega
  | ⟨3, _⟩ => show t.val % 16 * 1 + (0 : Fin 1).val = t.val % 16; omega
  | ⟨4, _⟩ => show 0 * 64 + p.val = p.val; omega
  | ⟨5, _⟩ => show 0 * 80 + k.val = k.val; omega

theorem blk_w (db : Fin 2) (r : Fin 256) :
    (blocksAt A t).w (ix4 db 0 r 0) = aW A (ix4 ⟨2 * (t.val / 16) + db.val, image_lt t db⟩ ⟨t.val % 16, Nat.mod_lt _ (by decide)⟩ r 0) := by
  refine congrArg (aW A) (funext fun a => Fin.ext ?_)
  have he := (cfg1.win 3).rect_emb_val t (ix4 db 0 r 0) a
  rw [index_3] at he
  refine Eq.trans he ?_
  match a with
  | ⟨0, _⟩ => show t.val / 16 * 2 + db.val = 2 * (t.val / 16) + db.val; omega
  | ⟨1, _⟩ => show t.val % 16 * 1 + (0 : Fin 1).val = t.val % 16; omega
  | ⟨2, _⟩ => show 0 * 256 + r.val = r.val; omega
  | ⟨3, _⟩ => show 0 * 1 + (0 : Fin 1).val = (0 : Fin 1).val; omega

theorem blk_wi (k v : Fin 384) :
    (blocksAt A t).wi (ix2 k v) = aWi A (ix2 k v) := by
  refine congrArg (aWi A) (funext fun a => Fin.ext ?_)
  have he := (cfg1.win 4).rect_emb_val t (ix2 k v) a
  rw [index_4] at he
  refine Eq.trans he ?_
  match a with
  | ⟨0, _⟩ => show 0 * 384 + k.val = k.val; omega
  | ⟨1, _⟩ => show 0 * 384 + v.val = v.val; omega

theorem blk_wo (k v : Fin 384) :
    (blocksAt A t).wo (ix2 k v) = aWo A (ix2 k v) := by
  refine congrArg (aWo A) (funext fun a => Fin.ext ?_)
  have he := (cfg1.win 6).rect_emb_val t (ix2 k v) a
  rw [index_6] at he
  refine Eq.trans he ?_
  match a with
  | ⟨0, _⟩ => show 0 * 384 + k.val = k.val; omega
  | ⟨1, _⟩ => show 0 * 384 + v.val = v.val; omega

theorem blk_bi (v : Fin 384) :
    (blocksAt A t).bi (ix2 0 v) = aBi A (ix2 0 v) := by
  refine congrArg (aBi A) (funext fun a => Fin.ext ?_)
  have he := (cfg1.win 5).rect_emb_val t (ix2 0 v) a
  rw [index_5] at he
  refine Eq.trans he ?_
  match a with
  | ⟨0, _⟩ => show 0 * 1 + (0 : Fin 1).val = (0 : Fin 1).val; omega
  | ⟨1, _⟩ => show 0 * 384 + v.val = v.val; omega

theorem blk_bo (v : Fin 384) :
    (blocksAt A t).bo (ix2 0 v) = aBo A (ix2 0 v) := by
  refine congrArg (aBo A) (funext fun a => Fin.ext ?_)
  have he := (cfg1.win 7).rect_emb_val t (ix2 0 v) a
  rw [index_7] at he
  refine Eq.trans he ?_
  match a with
  | ⟨0, _⟩ => show 0 * 1 + (0 : Fin 1).val = (0 : Fin 1).val; omega
  | ⟨1, _⟩ => show 0 * 384 + v.val = v.val; omega

/-- Where an element of the result's block lies. -/
theorem blk_o (db : Fin 2) (i : Fin 128) (s : Fin 8) (k : Fin 384) :
    ((cfg1.win 8).blk t).view.emb (ix4 db i s k) = ix4 ⟨2 * (t.val / 16) + db.val, image_lt t db⟩ i ⟨8 * (t.val % 16) + s.val, column_lt t s⟩ k := by
  refine funext fun a => Fin.ext ?_
  have h := (cfg1.win 8).rect_emb_val t (ix4 db i s k) a
  rw [index_8] at h
  refine Eq.trans h ?_
  match a with
  | ⟨0, _⟩ => show t.val / 16 * 2 + db.val = 2 * (t.val / 16) + db.val; omega
  | ⟨1, _⟩ => show 0 * 128 + i.val = i.val; omega
  | ⟨2, _⟩ => show t.val % 16 * 8 + s.val = 8 * (t.val % 16) + s.val; omega
  | ⟨3, _⟩ => show 0 * 384 + k.val = k.val; omega

/-- Two points write blocks that share nothing. -/
theorem blk_o_disjoint (t t' : Fin cfg1.N) (h : t ≠ t') : Disjoint ((cfg1.win 8).blk t).view.set ((cfg1.win 8).blk t').view.set := by
  rw [Finset.disjoint_left]
  intro y hy hy'
  obtain ⟨x, rfl⟩ := View.exists_emb_of_mem_set _ hy
  obtain ⟨x', hx'⟩ := View.exists_emb_of_mem_set _ hy'
  obtain ⟨a, i, s, e, rfl⟩ : ∃ (a : Fin 2) (i : Fin 128) (s : Fin 8) (e : Fin 384), x = ix4 a i s e := ⟨_, _, _, _, eq_ix4 x⟩
  obtain ⟨a', i', s', e', rfl⟩ : ∃ (a : Fin 2) (i : Fin 128) (s : Fin 8) (e : Fin 384), x' = ix4 a i s e := ⟨_, _, _, _, eq_ix4 x'⟩
  rw [blk_o, blk_o] at hx'
  have h0 := congrArg Fin.val (congrFun hx' (0 : Fin 4))
  have h2 := congrArg Fin.val (congrFun hx' (2 : Fin 4))
  have e0 : 2 * (t'.val / 16) + a'.val = 2 * (t.val / 16) + a.val := h0
  have e2 : 8 * (t'.val % 16) + s'.val = 8 * (t.val % 16) + s.val := h2
  exact h (Fin.ext (by omega))

/-- The point whose block has column `j` of image `b`. -/
def point (b : Fin 4) (j : Fin 128) : Fin cfg1.N := ⟨b.val / 2 * 16 + j.val / 8, by show _ < 32; omega⟩

theorem point_image (b : Fin 4) (j : Fin 128) : (point b j).val / 16 = b.val / 2 := by show (b.val / 2 * 16 + j.val / 8) / 16 = b.val / 2; omega
theorem point_column (b : Fin 4) (j : Fin 128) : (point b j).val % 16 = j.val / 8 := by show (b.val / 2 * 16 + j.val / 8) % 16 = j.val / 8; omega

/-- What the grid leaves in the result's array. -/
theorem result_apply (c : Dev nD) (b : Fin 4) (i j : Fin 128) (e : Fin 384) :
    (left (fun _ => A) c (tcRef main_v31) : S4x128x128x384.Idx → EReal) (ix4 b i j e)
      = outV (blocksAt A (point b j)) (ix4 ⟨b.val % 2, by omega⟩ i ⟨j.val % 8, by omega⟩ e) := by
  have hl : left (fun _ => A) c (tcRef main_v31) = (dat c A).arrAt 8 cfg1.N := Pipeline.afterRegion_arr (dat c A) A arr_inj 8
  have hb := (dat c A).arrAt_emb_eq_flushed 8 (fun t t' _ _ h => blk_o_disjoint t t' h)
    (point b j) (flush1_8 _) (ix4 ⟨b.val % 2, by omega⟩ i ⟨j.val % 8, by omega⟩ e)
  have hy : ((cfg1.win 8).blk (point b j)).view.emb (ix4 ⟨b.val % 2, by omega⟩ i ⟨j.val % 8, by omega⟩ e) = ix4 b i j e := by
    rw [blk_o]
    refine funext fun a => Fin.ext ?_
    match a with
    | ⟨0, _⟩ => show 2 * ((point b j).val / 16) + b.val % 2 = b.val; rw [point_image]; omega
    | ⟨1, _⟩ => rfl
    | ⟨2, _⟩ => show 8 * ((point b j).val % 16) + j.val % 8 = j.val; rw [point_column]; omega
    | ⟨3, _⟩ => rfl
  rw [hy] at hb
  rw [hl]
  refine hb.trans ?_
  rw [cast_eq]
  have hf : (dat c A).flushed 8 (point b j) = (dat c A).after 8 (point b j) := rfl
  rw [hf]
  dsimp only [dat]

end Cert.Proof.Gather

end
-- ==== Proof.Value.lean ====
/-
  The kernel's result as plain mathematics: the two projections, a block's 80 rows, the heads' mixtures of them. The
  arrays the host prepares are read element by element, and the grid's result over them is that mathematics.
-/
module

public import proofs.«01_k».proof.Proof.Final
public import Idealize.ShloMosaic.Lib.Pointwise
public import proofs.«01_k».proof.Proof.Gen.Pre_idx_in_range

@[expose] public section

noncomputable section

namespace Cert.Proof.Gather

open Cert.KernelIdeal Cert.KernelIdeal.Gen
open Idealize.ShloMosaic Idealize.SL.Sem
open Idealize.ShloMosaic.StableHlo (after)
open Idealize.ShloMosaic.Tactic

/-! ## The mathematics -/

/-- Every index names a token of its image. -/
def Tokens (fi : S4x256x16.Idx → BitVec 32) : Prop := ∀ y, (fi y).toNat < 16384

/-- The index that row `r` of the gathered rows reads: position `r / 3` of the indices, row-major. -/
def pos (r : Fin 49152) : S4x256x16.Idx := ix3 ⟨r.val / 12288, by omega⟩ ⟨r.val / 48 % 256, by omega⟩ ⟨r.val / 3 % 16, by omega⟩

/-- The gathered rows: lane `l` of row `r` is lane `128 (r % 3) + l` of the token the row's index names. -/
def picked {α : Type} (fx : S4x128x128x384.Idx → α) (fi : S4x256x16.Idx → BitVec 32) : S49152x128.Idx → α := fun y =>
  have h0 : (y 0).val < 49152 := (y 0).isLt
  have h1 : (y 1).val < 128 := (y 1).isLt
  fx (ix4 ⟨(y 0).val / 12288, by omega⟩ ⟨min (fi (pos (y 0))).toNat 16383 / 128, by omega⟩ ⟨min (fi (pos (y 0))).toNat 16383 % 128, by omega⟩
    ⟨128 * ((y 0).val % 3) + (y 1).val, by omega⟩)

section Math

variable (x : S4x128x128x384.Idx → EReal) (aw : S8x4x256x64x80.Idx → EReal) (fi : S4x256x16.Idx → BitVec 32) (wt : S4x256x16.Idx → EReal)
  (Wi : S384x384.Idx → EReal) (bi : S384.Idx → EReal) (Wo : S384x384.Idx → EReal) (bo : S384.Idx → EReal)

/-- Row `i`, column `j` of image `b`, projected. -/
def proj (b : Fin 4) (i j : Fin 128) (v : Fin 384) : EReal := (∑ k : Fin 384, x (ix4 b i j k) * Wi (ix2 v k)) + bi (ix1 v)

/-- The token that position `(b, t, k)` of the indices names. -/
def token (b : Fin 4) (t : Fin 256) (k : Fin 16) : Fin 16384 := ⟨min (fi (ix3 b t k)).toNat 16383, by omega⟩

/-- Block `t`'s 80 rows: its own 64, projected, then its 16 selected tokens', projected and weighted. -/
def rows (b : Fin 4) (t : Fin 256) (k : Fin 80) (v : Fin 384) : EReal :=
  if h : k.val < 64 then proj x Wi bi b ⟨8 * (t.val / 16) + k.val / 8, by omega⟩ ⟨8 * (t.val % 16) + k.val % 8, by omega⟩ v
  else proj x Wi bi b ⟨(token fi b t ⟨k.val - 64, by omega⟩).val / 128, by omega⟩ ⟨(token fi b t ⟨k.val - 64, by omega⟩).val % 128, by omega⟩ v
    * wt (ix3 b t ⟨k.val - 64, by omega⟩)

/-- The block that row `i`, column `j` of an image lies in, and its place there. -/
def block (i j : Fin 128) : Fin 256 := ⟨i.val / 8 * 16 + j.val / 8, by omega⟩
def place (i j : Fin 128) : Fin 64 := ⟨i.val % 8 * 8 + j.val % 8, by omega⟩

/-- Column `v` of the heads' mixtures. -/
def mixed (b : Fin 4) (i j : Fin 128) (v : Fin 384) : EReal :=
  ∑ k : Fin 80, aw (ix5 ⟨v.val / 48, by omega⟩ b (block i j) (place i j) k) * rows x fi wt Wi bi b (block i j) k v

/-- The result. -/
def answer (b : Fin 4) (i j : Fin 128) (e : Fin 384) : EReal :=
  (∑ v : Fin 384, mixed x aw fi wt Wi bi b i j v * Wo (ix2 e v)) + bo (ix1 e)

end Math

section Call

variable {F : FTy → Type} [FloatOps F]
variable (m : (ℓ : Loc nD τ sig) → Buf (Elt F) ℓ)

abbrev argX (d : Dev nD) : Loc nD τ sig := (SparseCore.T d).loc main_arg0
abbrev argI (d : Dev nD) : Loc nD τ sig := (SparseCore.T d).loc main_arg2

/-- The indices. -/
def idxs (d : Dev nD) : S4x256x16.Idx → BitVec 32 := fun z => m (argI d) z

/-- The number the host computes for row `r`. -/
theorem nums_apply (d : Dev nD) (y : S1x49152.Idx) :
    nums m d y = (idxs m d (pos (y 1)) + BitVec.ofNat 32 ((y 1).val / 12288) * 16384#32) * 3#32 + BitVec.ofNat 32 ((y 1).val % 3) := by
  have h1 : (y 1).val < 49152 := (y 1).isLt
  have h0 : (y 0).val < 1 := (y 0).isLt
  unfold nums V1 tcRef hops
  after_results_simp
  refine (shapeCast_apply _ shapeCasts_S49152_S1x49152 y (ix1 ⟨(y 1).val, h1⟩) ?_).trans ?_
  · rw [Shape.rowMajor_val_one, Shape.rowMajor_val_two]
    show (y 1).val = (y 0).val * 49152 + (y 1).val
    omega
  refine (shapeCast_apply _ shapeCasts_S16384x3_S49152 _ (ix2 ⟨(y 1).val / 3, by omega⟩ ⟨(y 1).val % 3, by omega⟩) ?_).trans ?_
  · rw [Shape.rowMajor_val_one, Shape.rowMajor_val_two]
    show (y 1).val / 3 * 3 + (y 1).val % 3 = (y 1).val
    omega
  refine congrArg (fun w : BitVec 32 => w * 3#32 + BitVec.ofNat 32 ((y 1).val % 3)) ?_
  refine (shapeCast_apply _ shapeCasts_S4x256x16_S16384 (ix1 ⟨(y 1).val / 3, by omega⟩) (pos (y 1)) ?_).trans rfl
  rw [Shape.rowMajor_val_one, Shape.rowMajor_val_three]
  show ((y 1).val / 12288 * 256 + (y 1).val / 48 % 256) * 16 + (y 1).val / 3 % 16 = (y 1).val / 3
  omega

theorem nums_toNat (d : Dev nD) (h : Tokens (m (argI d))) (y : S1x49152.Idx) :
    BitVec.toNat (nums m d y) = ((m (argI d) (pos (y 1)) : BitVec 32).toNat + (y 1).val / 12288 * 16384) * 3 + (y 1).val % 3 := by
  have h1 : (y 1).val < 49152 := (y 1).isLt
  have hp := h (pos (y 1))
  rw [nums_apply]
  have hv : (m (argI d) (pos (y 1)) : BitVec 32) = idxs m d (pos (y 1)) := rfl
  rw [hv] at hp ⊢
  generalize idxs m d (pos (y 1)) = w at hp ⊢
  show BitVec.toNat (((w : BitVec 32) + BitVec.ofNat 32 ((y 1).val / 12288) * 16384#32) * 3#32 + BitVec.ofNat 32 ((y 1).val % 3)) = _
  simp only [BitVec.toNat_add, BitVec.toNat_mul, BitVec.toNat_ofNat, Nat.reducePow, Nat.reduceMod]
  omega

theorem nums_inRange (h : ∀ d, Tokens (m (argI d))) (d : Dev nD) : InRange (F := F) (nums m d) := fun y => by
  have h1 : (y 1).val < 49152 := (y 1).isLt
  have hp := h d (pos (y 1))
  rw [nums_toNat m d (h d)]
  omega

/-- The table the host prepares, at a row and a lane: the argument at the same place, row-major. -/
theorem tab_apply (d : Dev nD) (y : S196608x128.Idx) (k : S4x128x128x384.Idx)
    (hk : (((k 0).val * 128 + (k 1).val) * 128 + (k 2).val) * 384 + (k 3).val = (y 0).val * 128 + (y 1).val) :
    tab m d y = m (argX d) k := by
  have h0 : (y 0).val < 196608 := (y 0).isLt
  have h1 : (y 1).val < 128 := (y 1).isLt
  unfold tab V1 tcRef hops
  after_results_simp
  refine (shapeCast_apply _ shapeCasts_S65536x384_S196608x128 y (ix2 ⟨(y 0).val / 3, by omega⟩ ⟨128 * ((y 0).val % 3) + (y 1).val, by omega⟩) ?_).trans ?_
  · rw [Shape.rowMajor_val_two, Shape.rowMajor_val_two]
    show (y 0).val / 3 * 384 + (128 * ((y 0).val % 3) + (y 1).val) = (y 0).val * 128 + (y 1).val
    omega
  refine (shapeCast_apply _ shapeCasts_S4x128x128x384_S65536x384 _ k ?_).trans rfl
  rw [Shape.rowMajor_val_two, Shape.rowMajor_val_four]
  show (((k 0).val * 128 + (k 1).val) * 128 + (k 2).val) * 384 + (k 3).val = (y 0).val / 3 * 384 + (128 * ((y 0).val % 3) + (y 1).val)
  omega

/-- What the call leaves in the result is the gathered rows. -/
theorem gRows_eq (d : Dev nD) (h : Tokens (m (argI d))) : gRows (tab m d) (nums m d) = picked (m (argX d)) (m (argI d)) := by
  funext y
  have h0 : (y 0).val < 49152 := (y 0).isLt
  have h1 : (y 1).val < 128 := (y 1).isLt
  have hp := h (pos (y 0))
  have hn := nums_toNat m d h (ix2i (y 0))
  have hn' : BitVec.toNat (nums m d (ix2i (y 0))) = ((m (argI d) (pos (y 0)) : BitVec 32).toNat + (y 0).val / 12288 * 16384) * 3 + (y 0).val % 3 := hn
  refine tab_apply m d _ _ ?_
  show (((y 0).val / 12288 * 128 + min (m (argI d) (pos (y 0)) : BitVec 32).toNat 16383 / 128) * 128 + min (m (argI d) (pos (y 0)) : BitVec 32).toNat 16383 % 128) * 384
      + (128 * ((y 0).val % 3) + (y 1).val) = min (BitVec.toNat (nums m d (ix2i (y 0)))) 196607 * 128 + (y 1).val
  rw [hn']
  omega

end Call

/-! ## The arrays of the grid -/

section Arrays

variable (m : (ℓ : Loc nD τ sig) → Buf (Elt Ideal) ℓ) (d : Dev nD)

/-- The arguments. -/
def mX : S4x128x128x384.Idx → EReal := fun y => m ((SparseCore.T d).loc main_arg0) y
def mA : S8x4x256x64x80.Idx → EReal := fun y => m ((SparseCore.T d).loc main_arg1) y
def mI : S4x256x16.Idx → BitVec 32 := fun y => m ((SparseCore.T d).loc main_arg2) y
def mW : S4x256x16.Idx → EReal := fun y => m ((SparseCore.T d).loc main_arg3) y
def mWi : S384x384.Idx → EReal := fun y => m ((SparseCore.T d).loc main_arg4) y
def mBi : S384.Idx → EReal := fun y => m ((SparseCore.T d).loc main_arg5) y
def mWo : S384x384.Idx → EReal := fun y => m ((SparseCore.T d).loc main_arg6) y
def mBo : S384.Idx → EReal := fun y => m ((SparseCore.T d).loc main_arg7) y

/-- An argument is still itself when the gather has ended. -/
theorem V2_arg (r : Ref sig .tc) (h : r ∉ hostWrites) (h' : tcRef r ≠ tcRef main_v19) : V2 m d (tcRef r) = m ((SparseCore.T d).loc r) :=
  (V2_kept m d _ h').trans (V1_kept m d r h)

theorem x_apply : aX (V3 m d) = mX m d := (V3_kept m d main_arg0 (by decide)).trans (V2_arg m d main_arg0 (by decide) (by decide))

theorem A_apply (h : Fin 8) (b : Fin 4) (i j : Fin 16) (p : Fin 64) (k : Fin 80) :
    aA (V3 m d) (ix6 h b i j p k) = mA m d (ix5 h b ⟨i.val * 16 + j.val, by omega⟩ p k) := by
  unfold aA V3 tcRef hops2
  after_results_simp
  rw [V2_arg m d main_arg1 (by decide) (by decide)]
  pointwise
  rfl

theorem W_apply (b : Fin 4) (j : Fin 16) (r : Fin 256) :
    aW (V3 m d) (ix4 b j r 0) = mW m d (ix3 b ⟨r.val / 16 * 16 + j.val, by omega⟩ ⟨r.val % 16, by omega⟩) := by
  unfold aW V3 tcRef hops2
  after_results_simp
  rw [V2_arg m d main_arg3 (by decide) (by decide)]
  pointwise
  rfl

theorem Wi_apply (k v : Fin 384) : aWi (V3 m d) (ix2 k v) = mWi m d (ix2 v k) := by
  unfold aWi V3 tcRef hops2
  after_results_simp
  rw [V2_arg m d main_arg4 (by decide) (by decide)]
  pointwise
  rfl

theorem Bi_apply (v : Fin 384) : aBi (V3 m d) (ix2 0 v) = mBi m d (ix1 v) := by
  unfold aBi V3 tcRef hops2
  after_results_simp
  rw [V2_arg m d main_arg5 (by decide) (by decide)]
  pointwise
  rfl

theorem Wo_apply (k v : Fin 384) : aWo (V3 m d) (ix2 k v) = mWo m d (ix2 v k) := by
  unfold aWo V3 tcRef hops2
  after_results_simp
  rw [V2_arg m d main_arg6 (by decide) (by decide)]
  pointwise
  rfl

theorem Bo_apply (v : Fin 384) : aBo (V3 m d) (ix2 0 v) = mBo m d (ix1 v) := by
  unfold aBo V3 tcRef hops2
  after_results_simp
  rw [V2_arg m d main_arg7 (by decide) (by decide)]
  pointwise
  rfl

/-- The gathered rows as the grid reads them: the selected tokens' rows. -/
theorem G_apply (h : Tokens (mI m d)) (b : Fin 4) (i j : Fin 16) (s : Fin 16) (k : Fin 384) :
    aG (V3 m d) (ix5 b i j s k)
      = mX m d (ix4 b ⟨(token (mI m d) b ⟨i.val * 16 + j.val, by omega⟩ s).val / 128, by omega⟩
          ⟨(token (mI m d) b ⟨i.val * 16 + j.val, by omega⟩ s).val % 128, by omega⟩ k) := by
  have hg : aG (V3 m d) (ix5 b i j s k) = (gRows (tab m d) (nums m d) : S49152x128.Idx → EReal)
      (ix2 ⟨(((b.val * 16 + i.val) * 16 + j.val) * 16 + s.val) * 3 + k.val / 128, by omega⟩ ⟨k.val % 128, by omega⟩) := by
    unfold aG V3 tcRef hops2
    after_results_simp
    rw [V2_out m d]
    pointwise
    exact congrArg (gRows (tab m d) (nums m d)) (congrArg (fun r => ix2 r _) (Fin.ext (by
      show b.val * 12288 + i.val * 768 + j.val * 48 + s.val * 3 + k.val / 128 = (((b.val * 16 + i.val) * 16 + j.val) * 16 + s.val) * 3 + k.val / 128
      omega)))
  rw [hg, gRows_eq m d h]
  refine congrArg (mX m d) (funext fun a => Fin.ext ?_)
  have e : pos ⟨(((b.val * 16 + i.val) * 16 + j.val) * 16 + s.val) * 3 + k.val / 128, by omega⟩
      = ix3 b ⟨i.val * 16 + j.val, by omega⟩ s := by
    funext z
    refine Fin.ext ?_
    match z with
    | ⟨0, _⟩ => show ((((b.val * 16 + i.val) * 16 + j.val) * 16 + s.val) * 3 + k.val / 128) / 12288 = b.val; omega
    | ⟨1, _⟩ => show ((((b.val * 16 + i.val) * 16 + j.val) * 16 + s.val) * 3 + k.val / 128) / 48 % 256 = i.val * 16 + j.val; omega
    | ⟨2, _⟩ => show ((((b.val * 16 + i.val) * 16 + j.val) * 16 + s.val) * 3 + k.val / 128) / 3 % 16 = s.val; omega
  match a with
  | ⟨0, _⟩ => show ((((b.val * 16 + i.val) * 16 + j.val) * 16 + s.val) * 3 + k.val / 128) / 12288 = b.val; omega
  | ⟨1, _⟩ => exact congrArg (fun z => min (BitVec.toNat (mI m d z)) 16383 / 128) e
  | ⟨2, _⟩ => exact congrArg (fun z => min (BitVec.toNat (mI m d z)) 16383 % 128) e
  | ⟨3, _⟩ =>
    show 128 * (((((b.val * 16 + i.val) * 16 + j.val) * 16 + s.val) * 3 + k.val / 128) % 3) + k.val % 128 = k.val
    omega

/-! ## The grid's result -/

/-- A block's own rows: its image's tokens, projected. -/
theorem own_apply (b : Fin 4) (j : Fin 128) (i : Fin 16) (k : Fin 64) (v : Fin 384) :
    (xs (blocksAt (V3 m d) (point b j)) ⟨b.val % 2, by omega⟩ i (ix2 k v) : EReal)
      = proj (mX m d) (mWi m d) (mBi m d) b ⟨8 * i.val + k.val / 8, by omega⟩ ⟨8 * (j.val / 8) + k.val % 8, by omega⟩ v := by
  rw [xs_apply, xp_apply, blk_bi, Bi_apply]
  unfold proj
  refine congrArg (fun z : EReal => z + mBi m d (ix1 v)) (Finset.sum_congr rfl fun l _ => ?_)
  rw [blk_x, blk_wi, Wi_apply, x_apply]
  refine congrArg (fun z : EReal => z * mWi m d (ix2 v l)) (congrArg (mX m d) ?_)
  have h1 := point_image b j
  have h2 := point_column b j
  funext a
  refine Fin.ext ?_
  match a with
  | ⟨0, _⟩ => show 2 * ((point b j).val / 16) + b.val % 2 = b.val; omega
  | ⟨1, _⟩ => show (64 * i.val + k.val) / 8 = 8 * i.val + k.val / 8; omega
  | ⟨2, _⟩ => show 8 * ((point b j).val % 16) + (64 * i.val + k.val) % 8 = 8 * (j.val / 8) + k.val % 8; omega
  | ⟨3, _⟩ => rfl

/-- A block's selected rows: the tokens its indices name, projected and weighted. -/
theorem selected_apply (h : Tokens (mI m d)) (b : Fin 4) (j : Fin 128) (i : Fin 16) (k : Fin 16) (v : Fin 384) :
    (gs (blocksAt (V3 m d) (point b j)) ⟨b.val % 2, by omega⟩ i (ix2 k v) : EReal)
      = proj (mX m d) (mWi m d) (mBi m d) b ⟨(token (mI m d) b ⟨i.val * 16 + j.val / 8, by omega⟩ k).val / 128, by omega⟩
          ⟨(token (mI m d) b ⟨i.val * 16 + j.val / 8, by omega⟩ k).val % 128, by omega⟩ v
        * mW m d (ix3 b ⟨i.val * 16 + j.val / 8, by omega⟩ k) := by
  have h1 := point_image b j
  have h2 := point_column b j
  have e1 : (⟨2 * ((point b j).val / 16) + b.val % 2, by omega⟩ : Fin 4) = b := Fin.ext (by show 2 * ((point b j).val / 16) + b.val % 2 = b.val; omega)
  have e2 : (⟨(point b j).val % 16, by omega⟩ : Fin 16) = ⟨j.val / 8, by omega⟩ := Fin.ext h2
  have e3 : (⟨(16 * i.val + k.val) / 16, by omega⟩ : Fin 16) = i := Fin.ext (by show (16 * i.val + k.val) / 16 = i.val; omega)
  have e4 : (⟨(16 * i.val + k.val) % 16, by omega⟩ : Fin 16) = k := Fin.ext (by show (16 * i.val + k.val) % 16 = k.val; omega)
  rw [gs_apply, gp_apply, blk_bi, Bi_apply, blk_w]
  dsimp only
  rw [e1, e2, e3, e4, W_apply]
  dsimp only
  have e5 : (⟨(16 * i.val + k.val) / 16 * 16 + j.val / 8, by omega⟩ : Fin 256) = ⟨i.val * 16 + j.val / 8, by omega⟩ :=
    Fin.ext (by show (16 * i.val + k.val) / 16 * 16 + j.val / 8 = i.val * 16 + j.val / 8; omega)
  rw [e4, e5]
  unfold proj
  refine congrArg (fun z : EReal => (z + mBi m d (ix1 v)) * mW m d (ix3 b ⟨i.val * 16 + j.val / 8, by omega⟩ k)) (Finset.sum_congr rfl fun l _ => ?_)
  rw [blk_g, blk_wi, Wi_apply]
  dsimp only
  rw [e1, e2, G_apply m d h]

/-- What the grid leaves on a device comes of that device's values alone. -/
theorem left_self (B : Dev nD → Valuation τ sig (Elt Ideal)) (c : Dev nD) : left B c = left (fun _ => B c) c := rfl

/-- What the grid leaves is the answer. -/
theorem kernel_apply (h : Tokens (mI m d)) (b : Fin 4) (i j : Fin 128) (e : Fin 384) :
    (VE m d (tcRef main_v31) : S4x128x128x384.Idx → EReal) (ix4 b i j e)
      = answer (mX m d) (mA m d) (mI m d) (mW m d) (mWi m d) (mBi m d) (mWo m d) (mBo m d) b i j e := by
  have h1 := point_image b j
  have h2 := point_column b j
  have e1 : (⟨2 * ((point b j).val / 16) + b.val % 2, by omega⟩ : Fin 4) = b := Fin.ext (by show 2 * ((point b j).val / 16) + b.val % 2 = b.val; omega)
  have e2 : (⟨(point b j).val % 16, by omega⟩ : Fin 16) = ⟨j.val / 8, by omega⟩ := Fin.ext h2
  unfold VE
  rw [left_self (V3 m) d, result_apply (V3 m d) d b i j e]
  rw [outV_sum, blk_bo, Bo_apply]
  unfold answer mixed
  refine congrArg (fun z : EReal => z + mBo m d (ix1 e)) (Finset.sum_congr rfl fun v _ => ?_)
  rw [blk_wo, Wo_apply]
  refine congrArg (fun z : EReal => z * mWo m d (ix2 e v)) (Finset.sum_congr rfl fun k _ => ?_)
  rw [blk_aw]
  dsimp only
  rw [e1, e2, A_apply, vcat_apply]
  refine congrArg (fun z : EReal => mA m d (ix5 ⟨v.val / 48, by omega⟩ b (block i j) (place i j) k) * z) ?_
  have hb : (block i j).val = i.val / 8 * 16 + j.val / 8 := rfl
  unfold rows
  by_cases hk : k.val < 64
  · rw [dif_pos hk, dif_pos hk, own_apply]
    refine congrArg₂ (fun p q => proj (mX m d) (mWi m d) (mBi m d) b p q v) (Fin.ext ?_) (Fin.ext ?_)
    · show 8 * (i.val / 8) + k.val / 8 = 8 * ((block i j).val / 16) + k.val / 8; omega
    · show 8 * (j.val / 8) + k.val % 8 = 8 * ((block i j).val % 16) + k.val % 8; omega
  · rw [dif_neg hk, dif_neg hk, selected_apply m d h]
    rfl

end Arrays

/-! ## The precondition -/

section Precondition

open Cert.Pre_idx_in_range Cert.Pre_idx_in_range.Gen
variable {F : FTy → Type} [FloatOps F]

theorem tokens_of_pre (a0 : FVec F Cert.Pre_idx_in_range.S4x128x128x384 .f32) (a1 : FVec F Cert.Pre_idx_in_range.S8x4x256x64x80 .f32)
    (fi : IVec Cert.Pre_idx_in_range.S4x256x16 32) (a3 : FVec F Cert.Pre_idx_in_range.S4x256x16 .f32)
    (a4 : FVec F Cert.Pre_idx_in_range.S384x384 .f32) (a5 : FVec F Cert.Pre_idx_in_range.S384 .f32)
    (a6 : FVec F Cert.Pre_idx_in_range.S384x384 .f32) (a7 : FVec F Cert.Pre_idx_in_range.S384 .f32)
    (h : Cert.Pre_idx_in_range.fn (F := F) a0 a1 fi a3 a4 a5 a6 a7 = fun _ => 1#1) : Tokens fi := by
  intro y
  have e := congrFun h y
  simp only [Cert.Pre_idx_in_range.fn, andi, cmpi, broadcastInDim, constantI] at e
  have hand : ∀ p q : Bool, IntOp.andi (BitVec.ofBool p) (BitVec.ofBool q) = 1#1 → p = true ∧ q = true := by decide
  have h2 := hand _ _ e
  simp only [BitVec.sle_eq_decide, BitVec.slt_eq_decide, decide_eq_true_eq, BitVec.toInt_eq_toNat_cond, BitVec.toNat_ofNat,
    Nat.reducePow, Nat.reduceMod] at h2
  omega

end Precondition

end Cert.Proof.Gather

end
-- ==== Proof.RefValue.lean ====
/-
  The reference's operations, stage by stage, and their result read element by element: the same mathematics as the kernel's.
-/
module

public import proofs.«01_k».proof.Proof.Value
public import proofs.«01_k».proof.Proof.Gen.ReferenceIdeal

@[expose] public section

noncomputable section

namespace Cert.Proof.Gather

open Cert.ReferenceIdeal Cert.ReferenceIdeal.Gen
open Idealize.ShloMosaic Idealize.SL.Sem
open Idealize.ShloMosaic.Tactic

section Stages

variable {F : FTy → Type} [FloatOps F]

/-- The reference's gather at a position and a lane: the table at the image and the token the two start numbers name, each clamped. -/
theorem gather_two {α : Type} (x : S4x16384x384.Idx → α) (idx : IVec S4x256x16x2 32) (b : Fin 4) (t : Fin 256) (k : Fin 16) (c : Fin 384) :
    Host.gather gather_S4x16384x384_S4x256x16x2_S4x256x16x384_3_01_n_n_01_3_11384 x idx (ix4 b t k c)
      = x (ix3 ⟨min (idx (ix4 b t k 0)).toInt.toNat 3, by omega⟩ ⟨min (idx (ix4 b t k 1)).toInt.toNat 16383, by omega⟩ c) := by
  unfold Host.gather
  refine congrArg x (funext fun a => Fin.ext ?_)
  revert a
  show ∀ a : Fin 3, _
  intro a
  match a with
  | 0 =>
    show GatherDims.start _ _ idx 0 + GatherDims.batchCoord _ _ 0 + GatherDims.offCoord _ _ 0 = _
    rw [GatherDims.batchCoord_eq_zero _ _ _ List.not_mem_nil, GatherDims.offCoord_eq_zero _ _ _ (by decide)]
    unfold GatherDims.start
    rw [dif_pos (by decide)]
    have hs : GatherDims.siIdx gather_S4x16384x384_S4x256x16x2_S4x256x16x384_3_01_n_n_01_3_11384 (ix4 b t k c) ⟨0, by decide⟩ = ix4 b t k 0 := by
      funext z; refine Fin.ext ?_
      match z with | ⟨0, _⟩ => rfl | ⟨1, _⟩ => rfl | ⟨2, _⟩ => rfl | ⟨3, _⟩ => rfl
    refine Eq.trans ?_ (congrArg (fun z => min (idx z).toInt.toNat 3) hs)
    rfl
  | 1 =>
    show GatherDims.start _ _ idx 1 + GatherDims.batchCoord _ _ 1 + GatherDims.offCoord _ _ 1 = _
    rw [GatherDims.batchCoord_eq_zero _ _ _ List.not_mem_nil, GatherDims.offCoord_eq_zero _ _ _ (by decide)]
    unfold GatherDims.start
    rw [dif_pos (by decide)]
    have hs : GatherDims.siIdx gather_S4x16384x384_S4x256x16x2_S4x256x16x384_3_01_n_n_01_3_11384 (ix4 b t k c) ⟨1, by decide⟩ = ix4 b t k 1 := by
      funext z; refine Fin.ext ?_
      match z with | ⟨0, _⟩ => rfl | ⟨1, _⟩ => rfl | ⟨2, _⟩ => rfl | ⟨3, _⟩ => rfl
    refine Eq.trans ?_ (congrArg (fun z => min (idx z).toInt.toNat 16383) hs)
    rfl
  | 2 =>
    show GatherDims.start _ _ idx 2 + GatherDims.batchCoord _ _ 2 + GatherDims.offCoord _ _ 2 = c.val
    rw [GatherDims.batchCoord_eq_zero _ _ _ List.not_mem_nil]
    unfold GatherDims.start
    rw [dif_neg (by decide)]
    unfold GatherDims.offCoord
    rw [dif_pos (by decide), Nat.zero_add]
    rfl

/-- Its start numbers: the image and the token of every selected row. -/
def refImage : IVec S4x1x1 32 :=
  select (cmpi .slt (broadcastInDim S4x1x1 ![0] bcast_S4_S4x1x1_0 (iotaInDim S4 32 0)) (broadcastInDim S4x1x1 ![] bcast_S_S4x1x1 (constantI S_ 32 0#32)))
    (addi (broadcastInDim S4x1x1 ![0] bcast_S4_S4x1x1_0 (iotaInDim S4 32 0)) (broadcastInDim S4x1x1 ![] bcast_S_S4x1x1 (constantI S_ 32 4#32)))
    (broadcastInDim S4x1x1 ![0] bcast_S4_S4x1x1_0 (iotaInDim S4 32 0))

def refToken (fi : IVec S4x256x16 32) : IVec S4x256x16 32 :=
  select (cmpi .slt fi (broadcastInDim S4x256x16 ![] bcast_S_S4x256x16 (constantI S_ 32 0#32)))
    (addi fi (broadcastInDim S4x256x16 ![] bcast_S_S4x256x16 (constantI S_ 32 16384#32))) fi

def refStarts (fi : IVec S4x256x16 32) : IVec S4x256x16x2 32 :=
  concatenate S4x256x16x2 3
    [⟨S4x256x16x1, broadcastInDim S4x256x16x1 ![0, 1, 2] bcast_S4x256x16_S4x256x16x1_0_1_2 (broadcastInDim S4x256x16 ![0, 1, 2] bcast_S4x1x1_S4x256x16_0_1_2 refImage)⟩,
     ⟨S4x256x16x1, broadcastInDim S4x256x16x1 ![0, 1, 2] bcast_S4x256x16_S4x256x16x1_0_1_2 (refToken fi)⟩]
    concatenates_S4x256x16x1_S4x256x16x1_S4x256x16x2_d3

theorem refImage_apply (b : Fin 4) : refImage (ix3 b 0 0) = BitVec.ofNat 32 b.val := by
  revert b; decide

theorem refToken_apply (fi : IVec S4x256x16 32) (y : S4x256x16.Idx) (h : (fi y).toNat < 16384) : refToken fi y = fi y := by
  have hs : IntOp.cmpi .slt (fi y) 0#32 = 0#1 := by
    show BitVec.ofBool ((fi y).slt 0#32) = 0#1
    have : ¬ (fi y).toInt < 0 := by rw [BitVec.toInt_eq_toNat_cond]; omega
    rw [BitVec.slt_eq_decide, BitVec.toInt_zero, decide_eq_false this]; rfl
  show Scalar.select (IntOp.cmpi .slt (fi y) 0#32) (fi y + 16384#32) (fi y) = fi y
  rw [hs]; rfl

theorem refStarts_image (fi : IVec S4x256x16 32) (b : Fin 4) (t : Fin 256) (k : Fin 16) : refStarts fi (ix4 b t k 0) = BitVec.ofNat 32 b.val := by
  refine (concatenate_pair_apply_left (s₁ := S4x256x16x1) (s₂ := S4x256x16x1) (t := S4x256x16x2) 3 _ _
    concatenates_S4x256x16x1_S4x256x16x1_S4x256x16x2_d3 (ix4 b t k 0) rfl (ix4 b t k 0) (fun z => ?_)).trans ?_
  · match z with | ⟨0, _⟩ => rfl | ⟨1, _⟩ => rfl | ⟨2, _⟩ => rfl | ⟨3, _⟩ => rfl
  · exact (congrArg refImage (funext fun z => match z with | ⟨0, _⟩ => rfl | ⟨1, _⟩ => rfl | ⟨2, _⟩ => rfl)).trans (refImage_apply b)

theorem refStarts_token (fi : IVec S4x256x16 32) (b : Fin 4) (t : Fin 256) (k : Fin 16) : refStarts fi (ix4 b t k 1) = refToken fi (ix3 b t k) := by
  refine (concatenate_pair_apply_right (s₁ := S4x256x16x1) (s₂ := S4x256x16x1) (t := S4x256x16x2) 3 _ _
    concatenates_S4x256x16x1_S4x256x16x1_S4x256x16x2_d3 (ix4 b t k 1) rfl rfl (ix4 b t k 0) (fun z => ?_) rfl).trans ?_
  · match z with | ⟨0, _⟩ => exact fun _ => rfl | ⟨1, _⟩ => exact fun _ => rfl | ⟨2, _⟩ => exact fun _ => rfl | ⟨3, _⟩ => exact fun h => absurd rfl h
  · exact congrArg (refToken fi) (funext fun z => match z with | ⟨0, _⟩ => rfl | ⟨1, _⟩ => rfl | ⟨2, _⟩ => rfl)

/-- Every token, projected. -/
def refProj (x : FVec F S4x128x128x384 .f32) (wi : FVec F S384x384 .f32) (bi : FVec F S384 .f32) : FVec F S4x128x128x384 .f32 :=
  addf (Host.dotGeneral dot_S4x128x128x384_S384x384_S4x128x128x384_3_0_012_1_n_n none x (transpose S384x384 [1, 0] wi transposes_S384x384_S384x384_1_0))
    (broadcastInDim S4x128x128x384 ![0, 1, 2, 3] bcast_S1x1x1x384_S4x128x128x384_0_1_2_3 (broadcastInDim S1x1x1x384 ![3] bcast_S384_S1x1x1x384_3 bi))

/-- The selected rows of the projections `p`, weighted. -/
def refPicked (p : FVec F S4x128x128x384 .f32) (fi : IVec S4x256x16 32) : FVec F S4x256x16x384 .f32 :=
  Host.gather gather_S4x16384x384_S4x256x16x2_S4x256x16x384_3_01_n_n_01_3_11384
    (shapeCast S4x16384x384 p shapeCasts_S4x128x128x384_S4x16384x384) (refStarts fi)

def refSel (p : FVec F S4x128x128x384 .f32) (fi : IVec S4x256x16 32) (wt : FVec F S4x256x16 .f32) : FVec F S4x256x16x384 .f32 :=
  mulf (refPicked p fi)
    (broadcastInDim S4x256x16x384 ![0, 1, 2, 3] bcast_S4x256x16x1_S4x256x16x384_0_1_2_3
      (broadcastInDim S4x256x16x1 ![0, 1, 2] bcast_S4x256x16_S4x256x16x1_0_1_2 wt))

/-- The projections, cut into blocks and heads; and the selected rows, cut into heads. -/
def refOwn (p : FVec F S4x128x128x384 .f32) : FVec F S8x4x256x64x48 .f32 :=
  shapeCast S8x4x256x64x48 (transpose S8x4x16x16x8x8x48 [5, 0, 1, 3, 2, 4, 6]
    (shapeCast S4x16x8x16x8x8x48 p shapeCasts_S4x128x128x384_S4x16x8x16x8x8x48)
    transposes_S4x16x8x16x8x8x48_S8x4x16x16x8x8x48_5_0_1_3_2_4_6) shapeCasts_S8x4x16x16x8x8x48_S8x4x256x64x48

def refTop (q : FVec F S4x256x16x384 .f32) : FVec F S8x4x256x16x48 .f32 :=
  transpose S8x4x256x16x48 [3, 0, 1, 2, 4] (shapeCast S4x256x16x8x48 q shapeCasts_S4x256x16x384_S4x256x16x8x48)
    transposes_S4x256x16x8x48_S8x4x256x16x48_3_0_1_2_4

/-- The 80 rows of every block and head. -/
def refRows (p : FVec F S4x128x128x384 .f32) (q : FVec F S4x256x16x384 .f32) : FVec F S8x4x256x80x48 .f32 :=
  concatenate S8x4x256x80x48 3 [⟨S8x4x256x64x48, refOwn p⟩, ⟨S8x4x256x16x48, refTop q⟩]
    concatenates_S8x4x256x64x48_S8x4x256x16x48_S8x4x256x80x48_d3

/-- The heads' mixtures, and these as one array of tokens. -/
def refHeads (aw : FVec F S8x4x256x64x80 .f32) (r : FVec F S8x4x256x80x48 .f32) : FVec F S8x4x256x64x48 .f32 :=
  Host.dotGeneral dot_S8x4x256x64x80_S8x4x256x80x48_S8x4x256x64x48_4_3_3_4_012_012 none aw r

def refMix (h : FVec F S8x4x256x64x48 .f32) : FVec F S4x128x128x384 .f32 :=
  shapeCast S4x128x128x384 (transpose S4x16x8x16x8x8x48 [1, 2, 4, 3, 5, 0, 6]
    (shapeCast S8x4x16x16x8x8x48 h shapeCasts_S8x4x256x64x48_S8x4x16x16x8x8x48)
    transposes_S8x4x16x16x8x8x48_S4x16x8x16x8x8x48_1_2_4_3_5_0_6) shapeCasts_S4x16x8x16x8x8x48_S4x128x128x384

/-- The reference's result. -/
def refOut (x : FVec F S4x128x128x384 .f32) (aw : FVec F S8x4x256x64x80 .f32) (fi : IVec S4x256x16 32) (wt : FVec F S4x256x16 .f32)
    (wi : FVec F S384x384 .f32) (bi : FVec F S384 .f32) (wo : FVec F S384x384 .f32) (bo : FVec F S384 .f32) : FVec F S4x128x128x384 .f32 :=
  refProj (refMix (refHeads aw (refRows (refProj x wi bi) (refSel (refProj x wi bi) fi wt)))) wo bo

end Stages

/-! ## The stages, element by element -/

section Elements

theorem refProj_apply (x : FVec Ideal S4x128x128x384 .f32) (wi : FVec Ideal S384x384 .f32) (bi : FVec Ideal S384 .f32)
    (b : Fin 4) (i j : Fin 128) (v : Fin 384) : refProj x wi bi (ix4 b i j v) = proj x wi bi b i j v := by
  unfold proj
  pointwise [refProj]

theorem refPicked_apply (p : FVec Ideal S4x128x128x384 .f32) (fi : IVec S4x256x16 32) (h : Tokens fi)
    (b : Fin 4) (t : Fin 256) (k : Fin 16) (v : Fin 384) :
    refPicked p fi (ix4 b t k v) = p (ix4 b ⟨(token fi b t k).val / 128, by omega⟩ ⟨(token fi b t k).val % 128, by omega⟩ v) := by
  have hp := h (ix3 b t k)
  have hb : (BitVec.ofNat 32 b.val).toInt = (b.val : ℕ) := by
    rw [BitVec.toInt_eq_toNat_cond, BitVec.toNat_ofNat]; omega
  have ht : (fi (ix3 b t k)).toInt = (fi (ix3 b t k)).toNat := by rw [BitVec.toInt_eq_toNat_cond]; omega
  have e0 : min (refStarts fi (ix4 b t k 0)).toInt.toNat 3 = b.val := by rw [refStarts_image, hb]; omega
  have e1 : min (refStarts fi (ix4 b t k 1)).toInt.toNat 16383 = (token fi b t k).val := by
    rw [refStarts_token, refToken_apply fi _ hp, ht]; rfl
  unfold refPicked
  rw [gather_two]
  refine (shapeCast_apply _ shapeCasts_S4x128x128x384_S4x16384x384 _
    (ix4 b ⟨(token fi b t k).val / 128, by omega⟩ ⟨(token fi b t k).val % 128, by omega⟩ v) ?_)
  rw [Shape.rowMajor_val_three, Shape.rowMajor_val_four]
  show ((b.val * 128 + (token fi b t k).val / 128) * 128 + (token fi b t k).val % 128) * 384 + v.val
    = (min (refStarts fi (ix4 b t k 0)).toInt.toNat 3 * 16384 + min (refStarts fi (ix4 b t k 1)).toInt.toNat 16383) * 384 + v.val
  rw [e0, e1]
  omega

theorem refSel_apply (p : FVec Ideal S4x128x128x384 .f32) (fi : IVec S4x256x16 32) (wt : FVec Ideal S4x256x16 .f32)
    (b : Fin 4) (t : Fin 256) (k : Fin 16) (v : Fin 384) :
    (refSel p fi wt (ix4 b t k v) : EReal) = (refPicked p fi (ix4 b t k v) : EReal) * (wt (ix3 b t k) : EReal) := by
  unfold refSel
  generalize refPicked p fi = q
  pointwise

theorem refOwn_apply (p : FVec Ideal S4x128x128x384 .f32) (h : Fin 8) (b : Fin 4) (t : Fin 256) (k : Fin 64) (e : Fin 48) :
    refOwn p (ix5 h b t k e) = p (ix4 b ⟨t.val / 16 * 8 + k.val / 8, by omega⟩ ⟨t.val % 16 * 8 + k.val % 8, by omega⟩ ⟨h.val * 48 + e.val, by omega⟩) := by
  pointwise [refOwn]

theorem refTop_apply (q : FVec Ideal S4x256x16x384 .f32) (h : Fin 8) (b : Fin 4) (t : Fin 256) (k : Fin 16) (e : Fin 48) :
    refTop q (ix5 h b t k e) = q (ix4 b t k ⟨h.val * 48 + e.val, by omega⟩) := by
  pointwise [refTop]

theorem refRows_apply (p : FVec Ideal S4x128x128x384 .f32) (q : FVec Ideal S4x256x16x384 .f32) (h : Fin 8) (b : Fin 4) (t : Fin 256) (k : Fin 80) (e : Fin 48) :
    refRows p q (ix5 h b t k e)
      = if hk : k.val < 64 then refOwn p (ix5 h b t ⟨k.val, hk⟩ e) else refTop q (ix5 h b t ⟨k.val - 64, by omega⟩ e) := by
  unfold refRows
  generalize refOwn p = p'
  generalize refTop q = q'
  pointwise

theorem refHeads_apply (aw : FVec Ideal S8x4x256x64x80 .f32) (r : FVec Ideal S8x4x256x80x48 .f32) (h : Fin 8) (b : Fin 4) (t : Fin 256) (p : Fin 64) (e : Fin 48) :
    (refHeads aw r (ix5 h b t p e) : EReal) = ∑ k : Fin 80, (aw (ix5 h b t p k) : EReal) * (r (ix5 h b t k e) : EReal) := by
  pointwise [refHeads]

theorem refMix_apply (r : FVec Ideal S8x4x256x64x48 .f32) (b : Fin 4) (i j : Fin 128) (v : Fin 384) :
    refMix r (ix4 b i j v) = r (ix5 ⟨v.val / 48, by omega⟩ b (block i j) (place i j) ⟨v.val % 48, by omega⟩) := by
  unfold block place
  pointwise [refMix]

/-- The reference's result is the answer. -/
theorem refOut_apply (x : FVec Ideal S4x128x128x384 .f32) (aw : FVec Ideal S8x4x256x64x80 .f32) (fi : IVec S4x256x16 32) (wt : FVec Ideal S4x256x16 .f32)
    (wi : FVec Ideal S384x384 .f32) (bi : FVec Ideal S384 .f32) (wo : FVec Ideal S384x384 .f32) (bo : FVec Ideal S384 .f32) (h : Tokens fi)
    (b : Fin 4) (i j : Fin 128) (e : Fin 384) :
    refOut x aw fi wt wi bi wo bo (ix4 b i j e) = answer x aw fi wt wi bi wo bo b i j e := by
  unfold refOut answer mixed
  rw [refProj_apply]
  unfold proj
  refine congrArg (fun z : EReal => z + bo (ix1 e)) (Finset.sum_congr rfl fun v _ => congrArg (fun z : EReal => z * wo (ix2 e v)) ?_)
  rw [refMix_apply, refHeads_apply]
  refine Finset.sum_congr rfl fun k _ => ?_
  refine congrArg (fun z : EReal => aw (ix5 ⟨v.val / 48, by omega⟩ b (block i j) (place i j) k) * z) ?_
  have ev : (⟨v.val / 48 * 48 + v.val % 48, by omega⟩ : Fin 384) = v := Fin.ext (by show v.val / 48 * 48 + v.val % 48 = v.val; omega)
  rw [refRows_apply]
  unfold rows
  by_cases hk : k.val < 64
  · rw [dif_pos hk, dif_pos hk, refOwn_apply]
    dsimp only
    rw [ev, refProj_apply]
    exact congrArg₂ (fun p q => proj x wi bi b p q v) (Fin.ext (congrArg (· + k.val / 8) (Nat.mul_comm _ _))) (Fin.ext (congrArg (· + k.val % 8) (Nat.mul_comm _ _)))
  · rw [dif_neg hk, dif_neg hk, refTop_apply]
    dsimp only
    rw [ev, refSel_apply, refPicked_apply _ _ h, refProj_apply]

end Elements

end Cert.Proof.Gather

end
-- ==== Proof.Ref.lean ====
/-
  The reference's run: its operations one after another, its result the stages' composition, its arguments unchanged.
-/
module

public import proofs.«01_k».proof.Proof.RefValue
public import Idealize.ShloMosaic.Lib.StableHlo.RunHlo

@[expose] public section

noncomputable section

namespace Cert.Proof.Gather

open Cert.ReferenceIdeal Cert.ReferenceIdeal.Gen
open Idealize.ShloMosaic Idealize.SL.Sem
open Idealize.ShloMosaic.StableHlo (after)
open Idealize.ShloMosaic.Tactic

variable {F : FTy → Type} [FloatOps F]

set_option maxHeartbeats 4000000 in
/-- From any memory the reference runs, leaves `refOut` of its arguments in its result and its arguments as they were, and every counter zero. -/
theorem run_ref (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ fun r =>
      (∀ c : Dev nD, r.2.mem ((c.tc : Thread nD τ).loc main_v40)
          = refOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ r.2.sem = fun _ => 0 := by
  refine (θ_run Cert.ReferenceIdeal.defs _ _).mono (fun r h => ⟨fun c => ⟨?_, ?_, ?_, ?_, ?_, ?_, ?_, ?_, ?_⟩, Idealize.ShloMosaic.sem_eq_zero_of_no_sems (by decide) r.2⟩)
    (StableHlo.run_hlo (Cert.ReferenceIdeal.defs (F := F)) (Cert.ReferenceIdeal.main (F := F)) (by hlo_seq) (by decide) (by decide) (by simp)
      (by intro _ h; (repeat (cases h with | head => rfl | tail _ h => ?_)); exact nomatch h) m ρ)
  · refine (h c main_v40).trans ?_
    after_results_simp
    unfold refOut refMix refHeads refRows refTop refOwn refSel refPicked refProj refStarts refImage refToken
    rfl
  · refine (h c main_arg0).trans ?_
    after_results_simp
  · refine (h c main_arg1).trans ?_
    after_results_simp
  · refine (h c main_arg2).trans ?_
    after_results_simp
  · refine (h c main_arg3).trans ?_
    after_results_simp
  · refine (h c main_arg4).trans ?_
    after_results_simp
  · refine (h c main_arg5).trans ?_
    after_results_simp
  · refine (h c main_arg6).trans ?_
    after_results_simp
  · refine (h c main_arg7).trans ?_
    after_results_simp

end Cert.Proof.Gather

end
-- ==== Proof.Same.lean ====
/-
  The machine's program and the ideal one are one text: their body tables and their threads are equal at the machine's floats.
-/
module

public import proofs.«01_k».proof.Defs
public import proofs.«01_k».proof.Proof.Gen.Kernel
public import proofs.«01_k».proof.Proof.Gen.KernelIdeal

@[expose] public section

noncomputable section

namespace Cert.Proof.Gather

open Idealize.ShloMosaic Idealize.SL.Sem

set_option maxHeartbeats 4000000 in
/-- The kernels' bodies, processor by processor and label by label. -/
theorem defs₀_same : Cert.Kernel.defs₀ (F := Bits) = Cert.KernelIdeal.defs₀ (F := Bits) := by
  funext p l a
  match p, l, a with
  | .tc, 0, _ => rfl
  | .tc, 1, (t, s) => rfl
  | .scVector c s, 0, _ => rfl
  | .scVector c s, 1, _ => rfl
  | .scScalar c, 0, _ => rfl
  | .scScalar c, 1, _ => rfl

theorem defs_same : Cert.Kernel.defs (F := Bits) = Cert.KernelIdeal.defs (F := Bits) :=
  congrArg (fun d => Cert.KernelIdeal.sc.defs (Pipeline.defs Cert.KernelIdeal.pcfgs d)) defs₀_same

theorem threads_same : Cert.Kernel.threads (F := Bits) = Cert.KernelIdeal.threads (F := Bits) := rfl

end Cert.Proof.Gather

end
-- ==== Proof.lean ====
/-
  The claims about the whole kernel: it runs to its end from any memory whose indices are in range, leaves its arguments as they were and
  every counter zero, at the machine's floats and at exact ones; and its result is the reference's.
-/
module

public import proofs.«01_k».proof.Defs
public import proofs.«01_k».proof.Proof.Ref
public import proofs.«01_k».proof.Proof.Same
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_idx_in_range
public import Idealize.ShloMosaic.Adequacy
public import Idealize.ShloMosaic.Init

@[expose] public section

noncomputable section

namespace Cert.Proof

open Idealize.ShloMosaic Idealize.SL.Sem
open Cert.Proof.Gather

section Arguments

open Cert.KernelIdeal Cert.KernelIdeal.Gen
variable {F : FTy → Type} [FloatOps F]
variable (m : (ℓ : Loc nD τ sig) → Buf (Elt F) ℓ)

/-- Device `c`'s place of a name. -/
abbrev at_ (c : Dev nD) (r : Ref sig .tc) : Loc nD τ sig := (c.tc : Thread nD τ).loc r

/-- In-range indices, of the precondition. -/
theorem tokens
    (h : ∀ c, Cert.Pre_idx_in_range.fn (F := F) (m (at_ c main_arg0)) (m (at_ c main_arg1)) (m (at_ c main_arg2)) (m (at_ c main_arg3))
      (m (at_ c main_arg4)) (m (at_ c main_arg5)) (m (at_ c main_arg6)) (m (at_ c main_arg7)) = fun _ => 1#1) :
    ∀ d, Tokens (m (argI d)) := fun d => tokens_of_pre _ _ _ _ _ _ _ _ (h d)

/-- What a final state holds at an argument: what it held at the start. -/
theorem kept {r : PUnit × MemSt nD τ sig (Elt F)} (h : QC m r) (c : Dev nD) (a : Ref sig .tc) (h1 : a ∉ hostWrites) (h2 : a ∉ hostWrites2)
    (h3 : tcRef a ≠ tcRef main_v19) (h4 : ∀ w, Pipeline.arrRef spec1 w = a → (cfg1.win w).isOut = false) (hn : tcRef a ∈ nine) :
    r.2.mem (at_ c a) = m (at_ c a) := (h.1 c _ hn).trans (VE_kept m c a h1 h2 h3 h4)

theorem args {r : PUnit × MemSt nD τ sig (Elt F)} (h : QC m r) (c : Dev nD) :
    r.2.mem (at_ c main_arg0) = m (at_ c main_arg0) ∧ r.2.mem (at_ c main_arg1) = m (at_ c main_arg1)
      ∧ r.2.mem (at_ c main_arg2) = m (at_ c main_arg2) ∧ r.2.mem (at_ c main_arg3) = m (at_ c main_arg3)
      ∧ r.2.mem (at_ c main_arg4) = m (at_ c main_arg4) ∧ r.2.mem (at_ c main_arg5) = m (at_ c main_arg5)
      ∧ r.2.mem (at_ c main_arg6) = m (at_ c main_arg6) ∧ r.2.mem (at_ c main_arg7) = m (at_ c main_arg7) :=
  ⟨kept m h c main_arg0 (by decide) (by decide) (by decide) (by decide) (by decide),
    kept m h c main_arg1 (by decide) (by decide) (by decide) (by decide) (by decide),
    kept m h c main_arg2 (by decide) (by decide) (by decide) (by decide) (by decide),
    kept m h c main_arg3 (by decide) (by decide) (by decide) (by decide) (by decide),
    kept m h c main_arg4 (by decide) (by decide) (by decide) (by decide) (by decide),
    kept m h c main_arg5 (by decide) (by decide) (by decide) (by decide) (by decide),
    kept m h c main_arg6 (by decide) (by decide) (by decide) (by decide) (by decide),
    kept m h c main_arg7 (by decide) (by decide) (by decide) (by decide) (by decide)⟩

theorem out_mem : tcRef main_v31 ∈ nine := by decide

end Arguments

theorem frame_kernel : Cert.quiescent_Kernel := by
  intro m ρ h
  rw [defs_same, threads_same]
  exact (θ_run Cert.KernelIdeal.defs _ _).mono (fun _ r => ⟨fun c => args (F := Bits) m r c, r.2⟩)
    (run_main (F := Bits) m ρ (nums_inRange m (tokens (F := Bits) m h)))

theorem frame_kernelIdeal : Cert.quiescent_KernelIdeal := fun m ρ h =>
  (θ_run Cert.KernelIdeal.defs _ _).mono (fun _ r => ⟨fun c => args (F := Ideal) m r c, r.2⟩)
    (run_main (F := Ideal) m ρ (nums_inRange m (tokens (F := Ideal) m h)))

theorem frame_reference : Cert.quiescent_ReferenceIdeal := fun m ρ _ =>
  (θ_run Cert.ReferenceIdeal.defs _ _).mono (fun _ r => ⟨fun c => (r.1 c).2, r.2⟩) (run_ref (F := Ideal) m ρ)

/-- The kernel's result is the reference's, of the same arguments. -/
theorem result_eq (m : (ℓ : Loc Cert.KernelIdeal.nD Cert.KernelIdeal.τ Cert.KernelIdeal.sig) → Buf (Elt Ideal) ℓ) (c : Dev Cert.KernelIdeal.nD)
    (h : Tokens (mI m c)) :
    (refOut (F := Ideal) (mX m c) (mA m c) (mI m c) (mW m c) (mWi m c) (mBi m c) (mWo m c) (mBo m c) : Cert.KernelIdeal.S4x128x128x384.Idx → EReal)
      = (VE m c (tcRef Cert.KernelIdeal.main_v31) : Cert.KernelIdeal.S4x128x128x384.Idx → EReal) := by
  funext y
  obtain ⟨b, i, j, e, rfl⟩ : ∃ (b : Fin 4) (i j : Fin 128) (e : Fin 384), y = ix4 b i j e := ⟨_, _, _, _, eq_ix4 y⟩
  exact (refOut_apply _ _ _ _ _ _ _ _ h b i j e).trans (kernel_apply m c h b i j e).symm

theorem same : Cert.algebraic_KernelIdeal_ReferenceIdeal := by
  intro m ρ m' ρ' h hagree
  have ht := tokens (F := Ideal) m h
  refine ⟨fun c => VE m c (tcRef Cert.KernelIdeal.main_v31), (θ_run Cert.KernelIdeal.defs _ _).mono
    (fun _ r c => ⟨r.1 c _ out_mem, args (F := Ideal) m r c⟩) (run_main (F := Ideal) m ρ (nums_inRange m ht)), ?_⟩
  refine (θ_run Cert.ReferenceIdeal.defs _ _).mono (fun _ r c => ⟨(r.1 c).1.trans ?_, (r.1 c).2⟩) (run_ref (F := Ideal) m' ρ')
  obtain ⟨h0, h1, h2, h3, h4, h5, h6, h7⟩ := hagree c
  rw [h0, h1, h2, h3, h4, h5, h6, h7]
  exact result_eq m c (ht c)

theorem claim : Cert.Claim := ⟨Cert.Kernel.Gen.facts, Cert.KernelIdeal.Gen.facts, Cert.ReferenceIdeal.Gen.facts, Cert.Pre_idx_in_range.Gen.facts,
  frame_kernel, frame_kernelIdeal, frame_reference, trivial, same⟩

end Cert.Proof

end
